-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_SampleConv (m : (ℓ : Loc Cert.SampleConv.nD Cert.SampleConv.τ Cert.SampleConv.sig) → Buf (Elt Bits) ℓ) : Prop :=
  True

def Pre_SampleConvIdeal (m : (ℓ : Loc Cert.SampleConvIdeal.nD Cert.SampleConvIdeal.τ Cert.SampleConvIdeal.sig) → Buf (Elt Ideal) ℓ) : Prop :=
  True

def Pre_SampleConvRefIdeal (m : (ℓ : Loc Cert.SampleConvRefIdeal.nD Cert.SampleConvRefIdeal.τ Cert.SampleConvRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1))
      ∧ r.2.sem = fun _ => 0)

def quiescent_SampleConv [hSampleConv : Cert.SampleConv.Facts] : Prop :=
  ∀ (m : (ℓ : Loc Cert.SampleConv.nD Cert.SampleConv.τ Cert.SampleConv.sig) → Buf (Elt Bits) ℓ) (g : Dev Cert.SampleConv.nD → PrngReg), Pre_SampleConv m →
    θ_run (Cert.SampleConv.defs (F := Bits)) (onTc (τ := Cert.SampleConv.τ) (Cert.SampleConv.main (F := Bits))) ⟨m, fun _ => 0, g⟩ (fun r => (∀ c : Dev Cert.SampleConv.nD,
      r.2.mem ((c.tc : Thread Cert.SampleConv.nD Cert.SampleConv.τ).loc Cert.SampleConv.main_arg0) = m ((c.tc : Thread Cert.SampleConv.nD Cert.SampleConv.τ).loc Cert.SampleConv.main_arg0)
      ∧ r.2.mem ((c.tc : Thread Cert.SampleConv.nD Cert.SampleConv.τ).loc Cert.SampleConv.main_arg1) = m ((c.tc : Thread Cert.SampleConv.nD Cert.SampleConv.τ).loc Cert.SampleConv.main_arg1))
      ∧ r.2.sem = fun _ => 0)

def quiescent_SampleConvIdeal [hSampleConvIdeal : Cert.SampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg), Pre_SampleConvIdeal m →
    θ_run (Cert.SampleConvIdeal.defs (F := Ideal)) (onTc (τ := Cert.SampleConvIdeal.τ) (Cert.SampleConvIdeal.main (F := Ideal))) ⟨m, fun _ => 0, g⟩ (fun r => (∀ c : Dev Cert.SampleConvIdeal.nD,
      r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
      ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1))
      ∧ r.2.sem = fun _ => 0)

def quiescent_SampleConvRefIdeal [hSampleConvRefIdeal : Cert.SampleConvRefIdeal.Facts] : Prop :=
  ∀ (m : (ℓ : Loc Cert.SampleConvRefIdeal.nD Cert.SampleConvRefIdeal.τ Cert.SampleConvRefIdeal.sig) → Buf (Elt Ideal) ℓ) (g : Dev Cert.SampleConvRefIdeal.nD → PrngReg), Pre_SampleConvRefIdeal m →
    θ_run (Cert.SampleConvRefIdeal.defs (F := Ideal)) (onTc (τ := Cert.SampleConvRefIdeal.τ) (Cert.SampleConvRefIdeal.main (F := Ideal))) ⟨m, fun _ => 0, g⟩ (fun r => (∀ c : Dev Cert.SampleConvRefIdeal.nD,
      r.2.mem ((c.tc : Thread Cert.SampleConvRefIdeal.nD Cert.SampleConvRefIdeal.τ).loc Cert.SampleConvRefIdeal.main_arg0) = m ((c.tc : Thread Cert.SampleConvRefIdeal.nD Cert.SampleConvRefIdeal.τ).loc Cert.SampleConvRefIdeal.main_arg0)
      ∧ r.2.mem ((c.tc : Thread Cert.SampleConvRefIdeal.nD Cert.SampleConvRefIdeal.τ).loc Cert.SampleConvRefIdeal.main_arg1) = m ((c.tc : Thread Cert.SampleConvRefIdeal.nD Cert.SampleConvRefIdeal.τ).loc Cert.SampleConvRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v12) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)) →
    ∃ (v0 : (c : Dev Cert.ShortConvIdeal.nD) → Buf (Elt Ideal) ((c.tc : Thread Cert.ShortConvIdeal.nD Cert.ShortConvIdeal.τ).loc Cert.ShortConvIdeal.main_v0)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v0) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v26) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1))

def preserves_SampleConv_SampleConvIdeal : Prop :=
  True

def algebraic_SampleConvIdeal_SampleConvRefIdeal [hSampleConvIdeal : Cert.SampleConvIdeal.Facts] [hSampleConvRefIdeal : Cert.SampleConvRefIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg)
    (m' : (ℓ : Loc Cert.SampleConvRefIdeal.nD Cert.SampleConvRefIdeal.τ Cert.SampleConvRefIdeal.sig) → Buf (Elt Ideal) ℓ) (g' : Dev Cert.SampleConvRefIdeal.nD → PrngReg), Pre_SampleConvIdeal m →
    (∀ c : Dev Cert.SampleConvIdeal.nD,
      m' ((c.tc : Thread Cert.SampleConvRefIdeal.nD Cert.SampleConvRefIdeal.τ).loc Cert.SampleConvRefIdeal.main_arg0) = m ((c.tc : Thread Cert.SampleConvIdeal.nD Cert.SampleConvIdeal.τ).loc Cert.SampleConvIdeal.main_arg0)
      ∧ m' ((c.tc : Thread Cert.SampleConvRefIdeal.nD Cert.SampleConvRefIdeal.τ).loc Cert.SampleConvRefIdeal.main_arg1) = m ((c.tc : Thread Cert.SampleConvIdeal.nD Cert.SampleConvIdeal.τ).loc Cert.SampleConvIdeal.main_arg1)) →
    ∃ (v0 : (c : Dev Cert.SampleConvIdeal.nD) → Buf (Elt Ideal) ((c.tc : Thread Cert.SampleConvIdeal.nD Cert.SampleConvIdeal.τ).loc Cert.SampleConvIdeal.main_v0)),
      θ_run (Cert.SampleConvIdeal.defs (F := Ideal)) (onTc (τ := Cert.SampleConvIdeal.τ) (Cert.SampleConvIdeal.main (F := Ideal))) ⟨m, fun _ => 0, g⟩ (fun r => ∀ c : Dev Cert.SampleConvIdeal.nD,
          r.2.mem ((c.tc : Thread Cert.SampleConvIdeal.nD Cert.SampleConvIdeal.τ).loc Cert.SampleConvIdeal.main_v0) = v0 c
          ∧ r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
          ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1))
      ∧ θ_run (Cert.SampleConvRefIdeal.defs (F := Ideal)) (onTc (τ := Cert.SampleConvRefIdeal.τ) (Cert.SampleConvRefIdeal.main (F := Ideal))) ⟨m', fun _ => 0, g'⟩ (fun r => ∀ c : Dev Cert.SampleConvRefIdeal.nD,
          r.2.mem ((c.tc : Thread Cert.SampleConvRefIdeal.nD Cert.SampleConvRefIdeal.τ).loc Cert.SampleConvRefIdeal.main_v26) = v0 c
          ∧ r.2.mem ((c.tc : Thread Cert.SampleConvRefIdeal.nD Cert.SampleConvRefIdeal.τ).loc Cert.SampleConvRefIdeal.main_arg0) = m' ((c.tc : Thread Cert.SampleConvRefIdeal.nD Cert.SampleConvRefIdeal.τ).loc Cert.SampleConvRefIdeal.main_arg0)
          ∧ r.2.mem ((c.tc : Thread Cert.SampleConvRefIdeal.nD Cert.SampleConvRefIdeal.τ).loc Cert.SampleConvRefIdeal.main_arg1) = m' ((c.tc : Thread Cert.SampleConvRefIdeal.nD Cert.SampleConvRefIdeal.τ).loc Cert.SampleConvRefIdeal.main_arg1))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v3_0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v12) = v0 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def Claim : Prop :=
  ∃ (hKernel : Cert.Kernel.Facts) (hReference : Cert.Reference.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFinalNorm : Cert.FinalNorm.Facts) (hFinalNormIdeal : Cert.FinalNormIdeal.Facts) (hFinalNormRefIdeal : Cert.FinalNormRefIdeal.Facts) (hShortConv : Cert.ShortConv.Facts) (hShortConvIdeal : Cert.ShortConvIdeal.Facts) (hShortConvRefIdeal : Cert.ShortConvRefIdeal.Facts) (hSampleConv : Cert.SampleConv.Facts) (hSampleConvIdeal : Cert.SampleConvIdeal.Facts) (hSampleConvRefIdeal : Cert.SampleConvRefIdeal.Facts) (hRoute : Cert.Route.Facts) (hRouteIdeal : Cert.RouteIdeal.Facts) (hRouteRefIdeal : Cert.RouteRefIdeal.Facts),
    quiescent_Kernel (hKernel := hKernel)
    ∧ quiescent_Reference (hReference := hReference)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_SampleConv (hSampleConv := hSampleConv)
    ∧ quiescent_SampleConvIdeal (hSampleConvIdeal := hSampleConvIdeal)
    ∧ quiescent_SampleConvRefIdeal (hSampleConvRefIdeal := hSampleConvRefIdeal)
    ∧ quiescent_Route (hRoute := hRoute)
    ∧ quiescent_RouteIdeal (hRouteIdeal := hRouteIdeal)
    ∧ quiescent_RouteRefIdeal (hRouteRefIdeal := hRouteRefIdeal)
    ∧ bitexact_Kernel_Reference (hKernel := hKernel) (hReference := hReference)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_ShortConv_ShortConvIdeal
    ∧ algebraic_ShortConvIdeal_ShortConvRefIdeal (hShortConvIdeal := hShortConvIdeal) (hShortConvRefIdeal := hShortConvRefIdeal)
    ∧ preserves_SampleConv_SampleConvIdeal
    ∧ algebraic_SampleConvIdeal_SampleConvRefIdeal (hSampleConvIdeal := hSampleConvIdeal) (hSampleConvRefIdeal := hSampleConvRefIdeal)
    ∧ preserves_Route_RouteIdeal
    ∧ algebraic_RouteIdeal_RouteRefIdeal (hRouteIdeal := hRouteIdeal) (hRouteRefIdeal := hRouteRefIdeal)
-- ==== Kernel.lean ====
abbrev S2x16384x2048 : Shape := ⟨3, ![2, 16384, 2048]⟩
abbrev S16384x2048 : Shape := ⟨2, ![16384, 2048]⟩
abbrev S2x1x8x2048 : Shape := ⟨4, ![2, 1, 8, 2048]⟩
abbrev S2 : Shape := ⟨1, ![2]⟩
abbrev S2x8x2048 : Shape := ⟨3, ![2, 8, 2048]⟩
abbrev S1x1x8x2048 : Shape := ⟨4, ![1, 1, 8, 2048]⟩
abbrev S1x8x2048 : Shape := ⟨3, ![1, 8, 2048]⟩
abbrev S1 : Shape := ⟨1, ![1]⟩
abbrev S_ : Shape := ⟨0, ![]⟩
abbrev S16 : Shape := ⟨1, ![16]⟩
abbrev S1x1x16 : Shape := ⟨3, ![1, 1, 16]⟩
abbrev S8x2048 : Shape := ⟨2, ![8, 2048]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S2x16384x2048, .f32⟩
  | .hbm, ⟨1, _⟩ => ⟨S2x16384x2048, .f32⟩
  | .hbm, ⟨2, _⟩ => ⟨S16384x2048, .i32⟩
  | .local .scVector .vmem, ⟨0, _⟩ => ⟨S2x1x8x2048, .f32⟩
  | .local .scVector .vmem, ⟨1, _⟩ => ⟨S2x1x8x2048, .f32⟩
  | .local .scVector .vmem, ⟨2, _⟩ => ⟨S2x8x2048, .i32⟩
  | _, _ => ⟨S2x16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev cc0_scoped4 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 : Fin 4 → Nat :=
  let c0_i32_14_r0 : BitVec 32 := 0#32
  let c2_i32_r0 : BitVec 32 := 2#32
  let v22_r0 : BitVec 32 := Scalar.remui c0_i32_14_r0 c2_i32_r0
  let c0_i32_15_r0 : BitVec 32 := 0#32
  let c0_i32_16_r0 : BitVec 32 := 0#32
  let c0_i32_17_r0 : BitVec 32 := 0#32
  ![v22_r0.toNat, 0, 0, 0]
def k0_off2 (i : grid0.Coords) : Fin 3 → Nat :=
  let c0_i32_18_r0 : BitVec 32 := 0#32
  let c8_i32_r0 : BitVec 32 := 8#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v8_r0 : BitVec 32 := Scalar.addi c0_i32_2_r0 v4
  let v23_r0 : BitVec 32 := Scalar.muli c8_i32_r0 v8_r0
  let c0_i32_19_r0 : BitVec 32 := 0#32
  ![0, v23_r0.toNat, 0]
def k0_off3 : Fin 1 → Nat :=
  let c0_i32_14_r0 : BitVec 32 := 0#32
  let c2_i32_r0 : BitVec 32 := 2#32
  let v22_r0 : BitVec 32 := Scalar.remui c0_i32_14_r0 c2_i32_r0
  ![v22_r0.toNat]
@[reducible] def k0_t1_loop : Scf.Loop 32 :=
  let c0_i32_47_r0 : BitVec 32 := 0#32
  let c64_i32_48_r0 : BitVec 32 := 64#32
  let v44_r0 : BitVec 32 := Scalar.addi c0_i32_47_r0 c64_i32_48_r0
  let c1_i32_49_r0 : BitVec 32 := 1#32
  ⟨c0_i32_47_r0, v44_r0, c1_i32_49_r0⟩
def k0_off4 (arg6_r0 : BitVec 32) : Fin 4 → Nat :=
  let c2_i32_138_r0 : BitVec 32 := 2#32
  let v189_r0 : BitVec 32 := Scalar.remui arg6_r0 c2_i32_138_r0
  let c0_i32_140_r0 : BitVec 32 := 0#32
  let c0_i32_141_r0 : BitVec 32 := 0#32
  let c0_i32_142_r0 : BitVec 32 := 0#32
  ![v189_r0.toNat, 0, 0, 0]
def k0_cond1 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let true_82_r0 : BitVec 1 := 1#1
  let c1_i32_81_r0 : BitVec 32 := 1#32
  let v84_r0 : BitVec 32 := Scalar.addi arg12_r0 c1_i32_81_r0
  let v85_r0 : BitVec 32 := Scalar.select true_82_r0 v84_r0 arg12_r0
  let c64_i32_83_r0 : BitVec 32 := 64#32
  let v86_r0 : BitVec 1 := Scalar.cmpi .eq v85_r0 c64_i32_83_r0
  let c0_i32_84_r0 : BitVec 32 := 0#32
  let v87_r0 : BitVec 32 := Scalar.select v86_r0 c0_i32_84_r0 v85_r0
  let v88_r0 : BitVec 32 := Scalar.addi v87_r0 v4
  let v94_r0 : BitVec 1 := Scalar.cmpi .ne v78_r0 v88_r0
  let c0_i32_47_r0 : BitVec 32 := 0#32
  let c1_i32_49_r0 : BitVec 32 := 1#32
  let arg5_r0 : BitVec 32 := Scf.iv c0_i32_47_r0 c1_i32_49_r0 k0_t1
  let c63_i32_89_r0 : BitVec 32 := 63#32
  let v95_r0 : BitVec 1 := Scalar.cmpi .sge arg5_r0 c63_i32_89_r0
  let true_90_r0 : BitVec 1 := 1#1
  let v96_r0 : BitVec 1 := Scalar.xori v95_r0 true_90_r0
  let v97_r0 : BitVec 1 := Scalar.andi v94_r0 v96_r0
  let true_91_r0 : BitVec 1 := 1#1
  let v98_r0 : BitVec 1 := Scalar.andi v97_r0 true_91_r0
  let v99_r0 : BitVec 32 := Scalar.extui v98_r0
  let c0_i32_92_r0 : BitVec 32 := 0#32
  let v100_r0 : BitVec 1 := Scalar.cmpi .ne v99_r0 c0_i32_92_r0
  v100_r0

def k0_off5 (i : grid0.Coords) (arg12_r0 : BitVec 32) : Fin 3 → Nat :=
  let c0_i32_143_r0 : BitVec 32 := 0#32
  let c8_i32_139_r0 : BitVec 32 := 8#32
  let true_82_r0 : BitVec 1 := 1#1
  let c1_i32_81_r0 : BitVec 32 := 1#32
  let v84_r0 : BitVec 32 := Scalar.addi arg12_r0 c1_i32_81_r0
  let v85_r0 : BitVec 32 := Scalar.select true_82_r0 v84_r0 arg12_r0
  let c64_i32_83_r0 : BitVec 32 := 64#32
  let v86_r0 : BitVec 1 := Scalar.cmpi .eq v85_r0 c64_i32_83_r0
  let c0_i32_84_r0 : BitVec 32 := 0#32
  let v87_r0 : BitVec 32 := Scalar.select v86_r0 c0_i32_84_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v88_r0 : BitVec 32 := Scalar.addi v87_r0 v4
  let v190_r0 : BitVec 32 := Scalar.muli c8_i32_139_r0 v88_r0
  let c0_i32_144_r0 : BitVec 32 := 0#32
  ![0, v190_r0.toNat, 0]
def k0_off6 (arg6_r0 : BitVec 32) : Fin 1 → Nat :=
  let c2_i32_138_r0 : BitVec 32 := 2#32
  let v189_r0 : BitVec 32 := Scalar.remui arg6_r0 c2_i32_138_r0
  ![v189_r0.toNat]
def k0_off7 (arg8_r0 : BitVec 32) : Fin 4 → Nat :=
  let c2_i32_138_r0 : BitVec 32 := 2#32
  let v189_r0 : BitVec 32 := Scalar.remui arg8_r0 c2_i32_138_r0
  let c0_i32_140_r0 : BitVec 32 := 0#32
  let c0_i32_141_r0 : BitVec 32 := 0#32
  let c0_i32_142_r0 : BitVec 32 := 0#32
  ![v189_r0.toNat, 0, 0, 0]
def k0_cond2 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let true_82_r0 : BitVec 1 := 1#1
  let c1_i32_81_r0 : BitVec 32 := 1#32
  let v84_r0 : BitVec 32 := Scalar.addi arg12_r0 c1_i32_81_r0
  let v85_r0 : BitVec 32 := Scalar.select true_82_r0 v84_r0 arg12_r0
  let c64_i32_83_r0 : BitVec 32 := 64#32
  let v86_r0 : BitVec 1 := Scalar.cmpi .eq v85_r0 c64_i32_83_r0
  let c0_i32_84_r0 : BitVec 32 := 0#32
  let v87_r0 : BitVec 32 := Scalar.select v86_r0 c0_i32_84_r0 v85_r0
  let v88_r0 : BitVec 32 := Scalar.addi v87_r0 v4
  let v104_r0 : BitVec 1 := Scalar.cmpi .ne v78_r0 v88_r0
  let c0_i32_47_r0 : BitVec 32 := 0#32
  let c1_i32_49_r0 : BitVec 32 := 1#32
  let arg5_r0 : BitVec 32 := Scf.iv c0_i32_47_r0 c1_i32_49_r0 k0_t1
  let c63_i32_95_r0 : BitVec 32 := 63#32
  let v105_r0 : BitVec 1 := Scalar.cmpi .sge arg5_r0 c63_i32_95_r0
  let true_96_r0 : BitVec 1 := 1#1
  let v106_r0 : BitVec 1 := Scalar.xori v105_r0 true_96_r0
  let v107_r0 : BitVec 1 := Scalar.andi v104_r0 v106_r0
  let true_97_r0 : BitVec 1 := 1#1
  let v108_r0 : BitVec 1 := Scalar.andi v107_r0 true_97_r0
  let v109_r0 : BitVec 32 := Scalar.extui v108_r0
  let c0_i32_98_r0 : BitVec 32 := 0#32
  let v110_r0 : BitVec 1 := Scalar.cmpi .ne v109_r0 c0_i32_98_r0
  v110_r0

def k0_off8 (i : grid0.Coords) (arg12_r0 : BitVec 32) : Fin 3 → Nat :=
  let c0_i32_143_r0 : BitVec 32 := 0#32
  let c8_i32_139_r0 : BitVec 32 := 8#32
  let true_82_r0 : BitVec 1 := 1#1
  let c1_i32_81_r0 : BitVec 32 := 1#32
  let v84_r0 : BitVec 32 := Scalar.addi arg12_r0 c1_i32_81_r0
  let v85_r0 : BitVec 32 := Scalar.select true_82_r0 v84_r0 arg12_r0
  let c64_i32_83_r0 : BitVec 32 := 64#32
  let v86_r0 : BitVec 1 := Scalar.cmpi .eq v85_r0 c64_i32_83_r0
  let c0_i32_84_r0 : BitVec 32 := 0#32
  let v87_r0 : BitVec 32 := Scalar.select v86_r0 c0_i32_84_r0 v85_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v88_r0 : BitVec 32 := Scalar.addi v87_r0 v4
  let v190_r0 : BitVec 32 := Scalar.muli c8_i32_139_r0 v88_r0
  let c0_i32_144_r0 : BitVec 32 := 0#32
  ![0, v190_r0.toNat, 0]
def k0_off9 (arg8_r0 : BitVec 32) : Fin 1 → Nat :=
  let c2_i32_138_r0 : BitVec 32 := 2#32
  let v189_r0 : BitVec 32 := Scalar.remui arg8_r0 c2_i32_138_r0
  ![v189_r0.toNat]
def k0_off10 (arg7_r0 : BitVec 32) : Fin 4 → Nat :=
  let c2_i32_139_r0 : BitVec 32 := 2#32
  let v190_r0 : BitVec 32 := Scalar.remui arg7_r0 c2_i32_139_r0
  let c0_i32_140_r0 : BitVec 32 := 0#32
  let c0_i32_141_r0 : BitVec 32 := 0#32
  let c0_i32_142_r0 : BitVec 32 := 0#32
  ![v190_r0.toNat, 0, 0, 0]
def k0_cond3 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let true_78_r0 : BitVec 1 := 1#1
  let c1_i32_77_r0 : BitVec 32 := 1#32
  let v79_r0 : BitVec 32 := Scalar.subi arg12_r0 c1_i32_77_r0
  let v80_r0 : BitVec 32 := Scalar.select true_78_r0 v79_r0 arg12_r0
  let c_m1_i32_79_r0 : BitVec 32 := 4294967295#32
  let v81_r0 : BitVec 1 := Scalar.cmpi .eq v80_r0 c_m1_i32_79_r0
  let c63_i32_80_r0 : BitVec 32 := 63#32
  let v82_r0 : BitVec 32 := Scalar.select v81_r0 c63_i32_80_r0 v80_r0
  let v83_r0 : BitVec 32 := Scalar.addi v82_r0 v4
  let v118_r0 : BitVec 1 := Scalar.cmpi .ne v78_r0 v83_r0
  let c0_i32_47_r0 : BitVec 32 := 0#32
  let c1_i32_49_r0 : BitVec 32 := 1#32
  let arg5_r0 : BitVec 32 := Scf.iv c0_i32_47_r0 c1_i32_49_r0 k0_t1
  let c0_i32_75_r0 : BitVec 32 := 0#32
  let v76_r0 : BitVec 1 := Scalar.cmpi .eq arg5_r0 c0_i32_75_r0
  let v119_r0 : BitVec 1 := Scalar.ori v118_r0 v76_r0
  let c0_i32_103_r0 : BitVec 32 := 0#32
  let v120_r0 : BitVec 1 := Scalar.cmpi .sge arg5_r0 c0_i32_103_r0
  let v121_r0 : BitVec 1 := Scalar.andi v119_r0 v120_r0
  let v122_r0 : BitVec 32 := Scalar.extui v121_r0
  let c0_i32_104_r0 : BitVec 32 := 0#32
  let v123_r0 : BitVec 1 := Scalar.cmpi .ne v122_r0 c0_i32_104_r0
  v123_r0

def k0_off11 (i : grid0.Coords) (arg12_r0 : BitVec 32) : Fin 3 → Nat :=
  let c0_i32_143_r0 : BitVec 32 := 0#32
  let c8_i32_138_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let v189_r0 : BitVec 32 := Scalar.muli c8_i32_138_r0 v78_r0
  let c0_i32_144_r0 : BitVec 32 := 0#32
  ![0, v189_r0.toNat, 0]
def k0_off12 (arg7_r0 : BitVec 32) : Fin 1 → Nat :=
  let c2_i32_139_r0 : BitVec 32 := 2#32
  let v190_r0 : BitVec 32 := Scalar.remui arg7_r0 c2_i32_139_r0
  ![v190_r0.toNat]
def k0_off13 (arg9_r0 : BitVec 32) : Fin 4 → Nat :=
  let c2_i32_139_r0 : BitVec 32 := 2#32
  let v190_r0 : BitVec 32 := Scalar.remui arg9_r0 c2_i32_139_r0
  let c0_i32_140_r0 : BitVec 32 := 0#32
  let c0_i32_141_r0 : BitVec 32 := 0#32
  let c0_i32_142_r0 : BitVec 32 := 0#32
  ![v190_r0.toNat, 0, 0, 0]
def k0_cond4 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let true_78_r0 : BitVec 1 := 1#1
  let c1_i32_77_r0 : BitVec 32 := 1#32
  let v79_r0 : BitVec 32 := Scalar.subi arg12_r0 c1_i32_77_r0
  let v80_r0 : BitVec 32 := Scalar.select true_78_r0 v79_r0 arg12_r0
  let c_m1_i32_79_r0 : BitVec 32 := 4294967295#32
  let v81_r0 : BitVec 1 := Scalar.cmpi .eq v80_r0 c_m1_i32_79_r0
  let c63_i32_80_r0 : BitVec 32 := 63#32
  let v82_r0 : BitVec 32 := Scalar.select v81_r0 c63_i32_80_r0 v80_r0
  let v83_r0 : BitVec 32 := Scalar.addi v82_r0 v4
  let v124_r0 : BitVec 1 := Scalar.cmpi .ne v78_r0 v83_r0
  let c0_i32_47_r0 : BitVec 32 := 0#32
  let c1_i32_49_r0 : BitVec 32 := 1#32
  let arg5_r0 : BitVec 32 := Scf.iv c0_i32_47_r0 c1_i32_49_r0 k0_t1
  let c0_i32_75_r0 : BitVec 32 := 0#32
  let v76_r0 : BitVec 1 := Scalar.cmpi .eq arg5_r0 c0_i32_75_r0
  let v125_r0 : BitVec 1 := Scalar.ori v124_r0 v76_r0
  let c0_i32_105_r0 : BitVec 32 := 0#32
  let v126_r0 : BitVec 1 := Scalar.cmpi .sge arg5_r0 c0_i32_105_r0
  let v127_r0 : BitVec 1 := Scalar.andi v125_r0 v126_r0
  let v128_r0 : BitVec 32 := Scalar.extui v127_r0
  let c0_i32_106_r0 : BitVec 32 := 0#32
  let v129_r0 : BitVec 1 := Scalar.cmpi .ne v128_r0 c0_i32_106_r0
  v129_r0

def k0_off14 (i : grid0.Coords) (arg12_r0 : BitVec 32) : Fin 3 → Nat :=
  let c0_i32_143_r0 : BitVec 32 := 0#32
  let c8_i32_138_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let v189_r0 : BitVec 32 := Scalar.muli c8_i32_138_r0 v78_r0
  let c0_i32_144_r0 : BitVec 32 := 0#32
  ![0, v189_r0.toNat, 0]
def k0_off15 (arg9_r0 : BitVec 32) : Fin 1 → Nat :=
  let c2_i32_139_r0 : BitVec 32 := 2#32
  let v190_r0 : BitVec 32 := Scalar.remui arg9_r0 c2_i32_139_r0
  ![v190_r0.toNat]
@[reducible] def k0_t2_loop : Scf.Loop 32 :=
  let c0_i32_112_r0 : BitVec 32 := 0#32
  let c8_i32_113_r0 : BitVec 32 := 8#32
  let v139_r0 : BitVec 32 := Scalar.addi c0_i32_112_r0 c8_i32_113_r0
  let c1_i32_114_r0 : BitVec 32 := 1#32
  ⟨c0_i32_112_r0, v139_r0, c1_i32_114_r0⟩
@[reducible] def k0_t3_loop : Scf.Loop 32 :=
  let c0_i32_140_r0 : BitVec 32 := 0#32
  let c16_i32_141_r0 : BitVec 32 := 16#32
  let v191_r0 : BitVec 32 := Scalar.addi c0_i32_140_r0 c16_i32_141_r0
  let c1_i32_142_r0 : BitVec 32 := 1#32
  ⟨c0_i32_140_r0, v191_r0, c1_i32_142_r0⟩
def k0_off16 (arg7_r0 : BitVec 32) : Fin 4 → Nat :=
  let c2_i32_109_r0 : BitVec 32 := 2#32
  let v136_r0 : BitVec 32 := Scalar.remui arg7_r0 c2_i32_109_r0
  let c0_i32_149_r0 : BitVec 32 := 0#32
  let c0_i32_150_r0 : BitVec 32 := 0#32
  let c0_i32_151_r0 : BitVec 32 := 0#32
  ![v136_r0.toNat, 0, 0, 0]

def k0_off17 (k0_t2 : Fin k0_t2_loop.trips) (k0_t3 : Fin k0_t3_loop.trips) : Fin 3 → Nat :=
  let c0_i32_148_r0 : BitVec 32 := 0#32
  let v198_r0 : Index := Scalar.indexCast c0_i32_148_r0
  let c0_i32_139_r0 : BitVec 32 := 0#32
  let c0_i32_112_r0 : BitVec 32 := 0#32
  let c1_i32_114_r0 : BitVec 32 := 1#32
  let arg13_r0 : BitVec 32 := Scf.iv c0_i32_112_r0 c1_i32_114_r0 k0_t2
  let c1_i32_138_r0 : BitVec 32 := 1#32
  let v189_r0 : BitVec 32 := Scalar.muli arg13_r0 c1_i32_138_r0
  let v190_r0 : BitVec 32 := Scalar.addi c0_i32_139_r0 v189_r0
  let v199_r0 : Index := Scalar.indexCast v190_r0
  let c0_i32_145_r0 : BitVec 32 := 0#32
  let c0_i32_140_r0 : BitVec 32 := 0#32
  let c1_i32_142_r0 : BitVec 32 := 1#32
  let arg14_r0 : BitVec 32 := Scf.iv c0_i32_140_r0 c1_i32_142_r0 k0_t3
  let c8_i32_144_r0 : BitVec 32 := 8#32
  let v192_r0 : BitVec 32 := Scalar.muli arg14_r0 c8_i32_144_r0
  let v193_r0 : BitVec 32 := Scalar.addi c0_i32_145_r0 v192_r0
  let c0_i32_146_r0 : BitVec 32 := 0#32
  let v194_r0 : BitVec 32 := Scalar.addi v193_r0 c0_i32_146_r0
  let c16_i32_147_r0 : BitVec 32 := 16#32
  let v195_r0 : BitVec 32 := Scalar.muli v194_r0 c16_i32_147_r0
  let v200_r0 : Index := Scalar.indexCast v195_r0
  ![0, v199_r0.toNat, v200_r0.toNat]
def k0_off18 (arg9_r0 : BitVec 32) : Fin 4 → Nat :=
  let c2_i32_110_r0 : BitVec 32 := 2#32
  let v137_r0 : BitVec 32 := Scalar.remui arg9_r0 c2_i32_110_r0
  let c0_i32_153_r0 : BitVec 32 := 0#32
  let c0_i32_154_r0 : BitVec 32 := 0#32
  let c0_i32_155_r0 : BitVec 32 := 0#32
  ![v137_r0.toNat, 0, 0, 0]

def k0_off19 (arg10_r0 : BitVec 32) : Fin 3 → Nat :=
  let c2_i32_111_r0 : BitVec 32 := 2#32
  let v138_r0 : BitVec 32 := Scalar.remui arg10_r0 c2_i32_111_r0
  let c0_i32_157_r0 : BitVec 32 := 0#32
  let c0_i32_158_r0 : BitVec 32 := 0#32
  ![v138_r0.toNat, 0, 0]

def k0_chk4 (arg10_r0 : BitVec 32) : Prop :=
  (∀ a, (k0_off19 arg10_r0) a + S1x8x2048.size a ≤ S2x8x2048.size a)
theorem k0_off19_inb : ∀ (arg10_r0 : BitVec 32) (k0_hw4 : k0_chk4 arg10_r0), ∀ a, (k0_off19 arg10_r0) a + S1x8x2048.size a ≤ S2x8x2048.size a := fun arg10_r0 k0_hw4 => k0_hw4

def k0_off20 (k0_t2 : Fin k0_t2_loop.trips) (k0_t3 : Fin k0_t3_loop.trips) (c0_i32_146_r0 : BitVec 32) : Fin 2 → Nat :=
  let c0_i32_139_r0 : BitVec 32 := 0#32
  let c0_i32_112_r0 : BitVec 32 := 0#32
  let c1_i32_114_r0 : BitVec 32 := 1#32
  let arg13_r0 : BitVec 32 := Scf.iv c0_i32_112_r0 c1_i32_114_r0 k0_t2
  let c1_i32_138_r0 : BitVec 32 := 1#32
  let v189_r0 : BitVec 32 := Scalar.muli arg13_r0 c1_i32_138_r0
  let v190_r0 : BitVec 32 := Scalar.addi c0_i32_139_r0 v189_r0
  let v219_r0 : Index := Scalar.indexCast v190_r0
  let c0_i32_145_r0 : BitVec 32 := 0#32
  let c0_i32_140_r0 : BitVec 32 := 0#32
  let c1_i32_142_r0 : BitVec 32 := 1#32
  let arg14_r0 : BitVec 32 := Scf.iv c0_i32_140_r0 c1_i32_142_r0 k0_t3
  let c8_i32_144_r0 : BitVec 32 := 8#32
  let v192_r0 : BitVec 32 := Scalar.muli arg14_r0 c8_i32_144_r0
  let v193_r0 : BitVec 32 := Scalar.addi c0_i32_145_r0 v192_r0
  let v194_r0 : BitVec 32 := Scalar.addi v193_r0 c0_i32_146_r0
  let c16_i32_147_r0 : BitVec 32 := 16#32
  let v195_r0 : BitVec 32 := Scalar.muli v194_r0 c16_i32_147_r0
  let v220_r0 : Index := Scalar.indexCast v195_r0
  ![v219_r0.toNat, v220_r0.toNat]
def k0_off21 (arg7_r0 : BitVec 32) : Fin 4 → Nat :=
  let c2_i32_109_r0 : BitVec 32 := 2#32
  let v136_r0 : BitVec 32 := Scalar.remui arg7_r0 c2_i32_109_r0
  let c0_i32_162_r0 : BitVec 32 := 0#32
  let c0_i32_163_r0 : BitVec 32 := 0#32
  let c0_i32_164_r0 : BitVec 32 := 0#32
  ![v136_r0.toNat, 0, 0, 0]

def k0_chk2 (arg7_r0 : BitVec 32) : Prop :=
  (∀ a, (k0_off16 arg7_r0) a + S1x1x8x2048.size a ≤ S2x1x8x2048.size a) ∧
  (∀ a, (k0_off21 arg7_r0) a + S1x1x8x2048.size a ≤ S2x1x8x2048.size a)
theorem k0_off16_inb : ∀ (arg7_r0 : BitVec 32) (k0_hw2 : k0_chk2 arg7_r0), ∀ a, (k0_off16 arg7_r0) a + S1x1x8x2048.size a ≤ S2x1x8x2048.size a := fun arg7_r0 k0_hw2 => k0_hw2.1
theorem k0_off21_inb : ∀ (arg7_r0 : BitVec 32) (k0_hw2 : k0_chk2 arg7_r0), ∀ a, (k0_off21 arg7_r0) a + S1x1x8x2048.size a ≤ S2x1x8x2048.size a := fun arg7_r0 k0_hw2 => k0_hw2.2

def k0_off22 (k0_t2 : Fin k0_t2_loop.trips) (k0_t3 : Fin k0_t3_loop.trips) (c1_i32_159_r0 : BitVec 32) : Fin 3 → Nat :=
  let c0_i32_161_r0 : BitVec 32 := 0#32
  let v226_r0 : Index := Scalar.indexCast c0_i32_161_r0
  let c0_i32_139_r0 : BitVec 32 := 0#32
  let c0_i32_112_r0 : BitVec 32 := 0#32
  let c1_i32_114_r0 : BitVec 32 := 1#32
  let arg13_r0 : BitVec 32 := Scf.iv c0_i32_112_r0 c1_i32_114_r0 k0_t2
  let c1_i32_138_r0 : BitVec 32 := 1#32
  let v189_r0 : BitVec 32 := Scalar.muli arg13_r0 c1_i32_138_r0
  let v190_r0 : BitVec 32 := Scalar.addi c0_i32_139_r0 v189_r0
  let v227_r0 : Index := Scalar.indexCast v190_r0
  let c0_i32_145_r0 : BitVec 32 := 0#32
  let c0_i32_140_r0 : BitVec 32 := 0#32
  let c1_i32_142_r0 : BitVec 32 := 1#32
  let arg14_r0 : BitVec 32 := Scf.iv c0_i32_140_r0 c1_i32_142_r0 k0_t3
  let c8_i32_144_r0 : BitVec 32 := 8#32
  let v192_r0 : BitVec 32 := Scalar.muli arg14_r0 c8_i32_144_r0
  let v193_r0 : BitVec 32 := Scalar.addi c0_i32_145_r0 v192_r0
  let v222_r0 : BitVec 32 := Scalar.addi v193_r0 c1_i32_159_r0
  let c16_i32_160_r0 : BitVec 32 := 16#32
  let v223_r0 : BitVec 32 := Scalar.muli v222_r0 c16_i32_160_r0
  let v228_r0 : Index := Scalar.indexCast v223_r0
  ![0, v227_r0.toNat, v228_r0.toNat]
def k0_off23 (arg9_r0 : BitVec 32) : Fin 4 → Nat :=
  let c2_i32_110_r0 : BitVec 32 := 2#32
  let v137_r0 : BitVec 32 := Scalar.remui arg9_r0 c2_i32_110_r0
  let c0_i32_166_r0 : BitVec 32 := 0#32
  let c0_i32_167_r0 : BitVec 32 := 0#32
  let c0_i32_168_r0 : BitVec 32 := 0#32
  ![v137_r0.toNat, 0, 0, 0]

def k0_chk3 (arg9_r0 : BitVec 32) : Prop :=
  (∀ a, (k0_off18 arg9_r0) a + S1x1x8x2048.size a ≤ S2x1x8x2048.size a) ∧
  (∀ a, (k0_off23 arg9_r0) a + S1x1x8x2048.size a ≤ S2x1x8x2048.size a)
theorem k0_off18_inb : ∀ (arg9_r0 : BitVec 32) (k0_hw3 : k0_chk3 arg9_r0), ∀ a, (k0_off18 arg9_r0) a + S1x1x8x2048.size a ≤ S2x1x8x2048.size a := fun arg9_r0 k0_hw3 => k0_hw3.1
theorem k0_off23_inb : ∀ (arg9_r0 : BitVec 32) (k0_hw3 : k0_chk3 arg9_r0), ∀ a, (k0_off23 arg9_r0) a + S1x1x8x2048.size a ≤ S2x1x8x2048.size a := fun arg9_r0 k0_hw3 => k0_hw3.2

def k0_off24 (arg10_r0 : BitVec 32) : Fin 3 → Nat :=
  let c2_i32_138_r0 : BitVec 32 := 2#32
  let v189_r0 : BitVec 32 := Scalar.remui arg10_r0 c2_i32_138_r0
  let c0_i32_140_r0 : BitVec 32 := 0#32
  let c0_i32_141_r0 : BitVec 32 := 0#32
  ![v189_r0.toNat, 0, 0]
def k0_cond8 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let true_82_r0 : BitVec 1 := 1#1
  let c1_i32_81_r0 : BitVec 32 := 1#32
  let v84_r0 : BitVec 32 := Scalar.addi arg12_r0 c1_i32_81_r0
  let v85_r0 : BitVec 32 := Scalar.select true_82_r0 v84_r0 arg12_r0
  let c64_i32_83_r0 : BitVec 32 := 64#32
  let v86_r0 : BitVec 1 := Scalar.cmpi .eq v85_r0 c64_i32_83_r0
  let c0_i32_84_r0 : BitVec 32 := 0#32
  let v87_r0 : BitVec 32 := Scalar.select v86_r0 c0_i32_84_r0 v85_r0
  let v88_r0 : BitVec 32 := Scalar.addi v87_r0 v4
  let v150_r0 : BitVec 1 := Scalar.cmpi .ne v78_r0 v88_r0
  let c0_i32_47_r0 : BitVec 32 := 0#32
  let c1_i32_49_r0 : BitVec 32 := 1#32
  let arg5_r0 : BitVec 32 := Scf.iv c0_i32_47_r0 c1_i32_49_r0 k0_t1
  let c63_i32_76_r0 : BitVec 32 := 63#32
  let v77_r0 : BitVec 1 := Scalar.cmpi .eq arg5_r0 c63_i32_76_r0
  let v151_r0 : BitVec 1 := Scalar.ori v150_r0 v77_r0
  let v152_r0 : BitVec 32 := Scalar.extui v151_r0
  let c0_i32_119_r0 : BitVec 32 := 0#32
  let v153_r0 : BitVec 1 := Scalar.cmpi .ne v152_r0 c0_i32_119_r0
  v153_r0

def k0_off25 (i : grid0.Coords) (arg12_r0 : BitVec 32) : Fin 2 → Nat :=
  let c8_i32_139_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let v190_r0 : BitVec 32 := Scalar.muli c8_i32_139_r0 v78_r0
  let c0_i32_142_r0 : BitVec 32 := 0#32
  ![v190_r0.toNat, 0]
def k0_off26 (arg10_r0 : BitVec 32) : Fin 1 → Nat :=
  let c2_i32_138_r0 : BitVec 32 := 2#32
  let v189_r0 : BitVec 32 := Scalar.remui arg10_r0 c2_i32_138_r0
  ![v189_r0.toNat]
def k0_off27 (arg11_r0 : BitVec 32) : Fin 3 → Nat :=
  let c2_i32_138_r0 : BitVec 32 := 2#32
  let v189_r0 : BitVec 32 := Scalar.remui arg11_r0 c2_i32_138_r0
  let c0_i32_140_r0 : BitVec 32 := 0#32
  let c0_i32_141_r0 : BitVec 32 := 0#32
  ![v189_r0.toNat, 0, 0]
def k0_cond11 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v78_r0 : BitVec 32 := Scalar.addi arg12_r0 v4
  let true_78_r0 : BitVec 1 := 1#1
  let c1_i32_77_r0 : BitVec 32 := 1#32
  let v79_r0 : BitVec 32 := Scalar.subi arg12_r0 c1_i32_77_r0
  let v80_r0 : BitVec 32 := Scalar.select true_78_r0 v79_r0 arg12_r0
  let c_m1_i32_79_r0 : BitVec 32 := 4294967295#32
  let v81_r0 : BitVec 1 := Scalar.cmpi .eq v80_r0 c_m1_i32_79_r0
  let c63_i32_80_r0 : BitVec 32 := 63#32
  let v82_r0 : BitVec 32 := Scalar.select v81_r0 c63_i32_80_r0 v80_r0
  let v83_r0 : BitVec 32 := Scalar.addi v82_r0 v4
  let v169_r0 : BitVec 1 := Scalar.cmpi .ne v78_r0 v83_r0
  let c0_i32_47_r0 : BitVec 32 := 0#32
  let c1_i32_49_r0 : BitVec 32 := 1#32
  let arg5_r0 : BitVec 32 := Scf.iv c0_i32_47_r0 c1_i32_49_r0 k0_t1
  let c0_i32_75_r0 : BitVec 32 := 0#32
  let v76_r0 : BitVec 1 := Scalar.cmpi .eq arg5_r0 c0_i32_75_r0
  let true_128_r0 : BitVec 1 := 1#1
  let v170_r0 : BitVec 1 := Scalar.xori v76_r0 true_128_r0
  let v171_r0 : BitVec 1 := Scalar.andi v169_r0 v170_r0
  let v172_r0 : BitVec 32 := Scalar.extui v171_r0
  let c0_i32_129_r0 : BitVec 32 := 0#32
  let v173_r0 : BitVec 1 := Scalar.cmpi .ne v172_r0 c0_i32_129_r0
  v173_r0

def k0_off28 (i : grid0.Coords) (arg12_r0 : BitVec 32) : Fin 2 → Nat :=
  let c8_i32_139_r0 : BitVec 32 := 8#32
  let true_78_r0 : BitVec 1 := 1#1
  let c1_i32_77_r0 : BitVec 32 := 1#32
  let v79_r0 : BitVec 32 := Scalar.subi arg12_r0 c1_i32_77_r0
  let v80_r0 : BitVec 32 := Scalar.select true_78_r0 v79_r0 arg12_r0
  let c_m1_i32_79_r0 : BitVec 32 := 4294967295#32
  let v81_r0 : BitVec 1 := Scalar.cmpi .eq v80_r0 c_m1_i32_79_r0
  let c63_i32_80_r0 : BitVec 32 := 63#32
  let v82_r0 : BitVec 32 := Scalar.select v81_r0 c63_i32_80_r0 v80_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v83_r0 : BitVec 32 := Scalar.addi v82_r0 v4
  let v190_r0 : BitVec 32 := Scalar.muli c8_i32_139_r0 v83_r0
  let c0_i32_142_r0 : BitVec 32 := 0#32
  ![v190_r0.toNat, 0]
def k0_off29 (arg11_r0 : BitVec 32) : Fin 1 → Nat :=
  let c2_i32_138_r0 : BitVec 32 := 2#32
  let v189_r0 : BitVec 32 := Scalar.remui arg11_r0 c2_i32_138_r0
  ![v189_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h1 : k0_cond1 i k0_t1 arg12_r0 = 1#1), ∀ a, (k0_off4 arg6_r0) a + S1x1x8x2048.size a ≤ S2x1x8x2048.size a) ∧
  (∀ (k0_h1 : k0_cond1 i k0_t1 arg12_r0 = 1#1), ∀ a, (k0_off5 i arg12_r0) a + S1x8x2048.size a ≤ S2x16384x2048.size a) ∧
  (∀ (k0_h1 : k0_cond1 i k0_t1 arg12_r0 = 1#1), ∀ a, (k0_off6 arg6_r0) a + S1.size a ≤ S2.size a) ∧
  (∀ (k0_h2 : k0_cond2 i k0_t1 arg12_r0 = 1#1), ∀ a, (k0_off7 arg8_r0) a + S1x1x8x2048.size a ≤ S2x1x8x2048.size a) ∧
  (∀ (k0_h2 : k0_cond2 i k0_t1 arg12_r0 = 1#1), ∀ a, (k0_off8 i arg12_r0) a + S1x8x2048.size a ≤ S2x16384x2048.size a) ∧
  (∀ (k0_h2 : k0_cond2 i k0_t1 arg12_r0 = 1#1), ∀ a, (k0_off9 arg8_r0) a + S1.size a ≤ S2.size a) ∧
  (∀ (k0_h3 : k0_cond3 i k0_t1 arg12_r0 = 1#1), ∀ a, (k0_off10 arg7_r0) a + S1x1x8x2048.size a ≤ S2x1x8x2048.size a) ∧
  (∀ (k0_h3 : k0_cond3 i k0_t1 arg12_r0 = 1#1), ∀ a, (k0_off11 i arg12_r0) a + S1x8x2048.size a ≤ S2x16384x2048.size a) ∧
  (∀ (k0_h3 : k0_cond3 i k0_t1 arg12_r0 = 1#1), ∀ a, (k0_off12 arg7_r0) a + S1.size a ≤ S2.size a) ∧
  (∀ (k0_h4 : k0_cond4 i k0_t1 arg12_r0 = 1#1), ∀ a, (k0_off13 arg9_r0) a + S1x1x8x2048.size a ≤ S2x1x8x2048.size a) ∧
  (∀ (k0_h4 : k0_cond4 i k0_t1 arg12_r0 = 1#1), ∀ a, (k0_off14 i arg12_r0) a + S1x8x2048.size a ≤ S2x16384x2048.size a) ∧
  (∀ (k0_h4 : k0_cond4 i k0_t1 arg12_r0 = 1#1), ∀ a, (k0_off15 arg9_r0) a + S1.size a ≤ S2.size a) ∧
  (∀ (k0_h8 : k0_cond8 i k0_t1 arg12_r0 = 1#1), ∀ a, (k0_off24 arg10_r0) a + S1x8x2048.size a ≤ S2x8x2048.size a) ∧
  (∀ (k0_h8 : k0_cond8 i k0_t1 arg12_r0 = 1#1), ∀ a, (k0_off25 i arg12_r0) a + S8x2048.size a ≤ S16384x2048.size a) ∧
  (∀ (k0_h8 : k0_cond8 i k0_t1 arg12_r0 = 1#1), ∀ a, (k0_off26 arg10_r0) a + S1.size a ≤ S2.size a) ∧
  (∀ (k0_h11 : k0_cond11 i k0_t1 arg12_r0 = 1#1), ∀ a, (k0_off27 arg11_r0) a + S1x8x2048.size a ≤ S2x8x2048.size a) ∧
  (∀ (k0_h11 : k0_cond11 i k0_t1 arg12_r0 = 1#1), ∀ a, (k0_off28 i arg12_r0) a + S8x2048.size a ≤ S16384x2048.size a) ∧
  (∀ (k0_h11 : k0_cond11 i k0_t1 arg12_r0 = 1#1), ∀ a, (k0_off29 arg11_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h1 : k0_cond1 i k0_t1 arg12_r0 = 1#1), ∀ a, (k0_off4 arg6_r0) a + S1x1x8x2048.size a ≤ S2x1x8x2048.size a := fun i k0_t1 arg6_r0 arg7_r0 arg8_r0 arg9_r0 arg10_r0 arg11_r0 arg12_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h1 : k0_cond1 i k0_t1 arg12_r0 = 1#1), ∀ a, (k0_off5 i arg12_r0) a + S1x8x2048.size a ≤ S2x16384x2048.size a := fun i k0_t1 arg6_r0 arg7_r0 arg8_r0 arg9_r0 arg10_r0 arg11_r0 arg12_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h1 : k0_cond1 i k0_t1 arg12_r0 = 1#1), ∀ a, (k0_off6 arg6_r0) a + S1.size a ≤ S2.size a := fun i k0_t1 arg6_r0 arg7_r0 arg8_r0 arg9_r0 arg10_r0 arg11_r0 arg12_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h2 : k0_cond2 i k0_t1 arg12_r0 = 1#1), ∀ a, (k0_off7 arg8_r0) a + S1x1x8x2048.size a ≤ S2x1x8x2048.size a := fun i k0_t1 arg6_r0 arg7_r0 arg8_r0 arg9_r0 arg10_r0 arg11_r0 arg12_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h2 : k0_cond2 i k0_t1 arg12_r0 = 1#1), ∀ a, (k0_off8 i arg12_r0) a + S1x8x2048.size a ≤ S2x16384x2048.size a := fun i k0_t1 arg6_r0 arg7_r0 arg8_r0 arg9_r0 arg10_r0 arg11_r0 arg12_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h2 : k0_cond2 i k0_t1 arg12_r0 = 1#1), ∀ a, (k0_off9 arg8_r0) a + S1.size a ≤ S2.size a := fun i k0_t1 arg6_r0 arg7_r0 arg8_r0 arg9_r0 arg10_r0 arg11_r0 arg12_r0 k0_hw1 k0_h2 => k0_hw1.2.2.2.2.2.1 k0_h2
theorem k0_off10_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h3 : k0_cond3 i k0_t1 arg12_r0 = 1#1), ∀ a, (k0_off10 arg7_r0) a + S1x1x8x2048.size a ≤ S2x1x8x2048.size a := fun i k0_t1 arg6_r0 arg7_r0 arg8_r0 arg9_r0 arg10_r0 arg11_r0 arg12_r0 k0_hw1 k0_h3 => k0_hw1.2.2.2.2.2.2.1 k0_h3
theorem k0_off11_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h3 : k0_cond3 i k0_t1 arg12_r0 = 1#1), ∀ a, (k0_off11 i arg12_r0) a + S1x8x2048.size a ≤ S2x16384x2048.size a := fun i k0_t1 arg6_r0 arg7_r0 arg8_r0 arg9_r0 arg10_r0 arg11_r0 arg12_r0 k0_hw1 k0_h3 => k0_hw1.2.2.2.2.2.2.2.1 k0_h3
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h3 : k0_cond3 i k0_t1 arg12_r0 = 1#1), ∀ a, (k0_off12 arg7_r0) a + S1.size a ≤ S2.size a := fun i k0_t1 arg6_r0 arg7_r0 arg8_r0 arg9_r0 arg10_r0 arg11_r0 arg12_r0 k0_hw1 k0_h3 => k0_hw1.2.2.2.2.2.2.2.2.1 k0_h3
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h4 : k0_cond4 i k0_t1 arg12_r0 = 1#1), ∀ a, (k0_off13 arg9_r0) a + S1x1x8x2048.size a ≤ S2x1x8x2048.size a := fun i k0_t1 arg6_r0 arg7_r0 arg8_r0 arg9_r0 arg10_r0 arg11_r0 arg12_r0 k0_hw1 k0_h4 => k0_hw1.2.2.2.2.2.2.2.2.2.1 k0_h4
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h4 : k0_cond4 i k0_t1 arg12_r0 = 1#1), ∀ a, (k0_off14 i arg12_r0) a + S1x8x2048.size a ≤ S2x16384x2048.size a := fun i k0_t1 arg6_r0 arg7_r0 arg8_r0 arg9_r0 arg10_r0 arg11_r0 arg12_r0 k0_hw1 k0_h4 => k0_hw1.2.2.2.2.2.2.2.2.2.2.1 k0_h4
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h4 : k0_cond4 i k0_t1 arg12_r0 = 1#1), ∀ a, (k0_off15 arg9_r0) a + S1.size a ≤ S2.size a := fun i k0_t1 arg6_r0 arg7_r0 arg8_r0 arg9_r0 arg10_r0 arg11_r0 arg12_r0 k0_hw1 k0_h4 => k0_hw1.2.2.2.2.2.2.2.2.2.2.2.1 k0_h4
theorem k0_off24_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h8 : k0_cond8 i k0_t1 arg12_r0 = 1#1), ∀ a, (k0_off24 arg10_r0) a + S1x8x2048.size a ≤ S2x8x2048.size a := fun i k0_t1 arg6_r0 arg7_r0 arg8_r0 arg9_r0 arg10_r0 arg11_r0 arg12_r0 k0_hw1 k0_h8 => k0_hw1.2.2.2.2.2.2.2.2.2.2.2.2.1 k0_h8
theorem k0_off25_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h8 : k0_cond8 i k0_t1 arg12_r0 = 1#1), ∀ a, (k0_off25 i arg12_r0) a + S8x2048.size a ≤ S16384x2048.size a := fun i k0_t1 arg6_r0 arg7_r0 arg8_r0 arg9_r0 arg10_r0 arg11_r0 arg12_r0 k0_hw1 k0_h8 => k0_hw1.2.2.2.2.2.2.2.2.2.2.2.2.2.1 k0_h8
theorem k0_off26_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h8 : k0_cond8 i k0_t1 arg12_r0 = 1#1), ∀ a, (k0_off26 arg10_r0) a + S1.size a ≤ S2.size a := fun i k0_t1 arg6_r0 arg7_r0 arg8_r0 arg9_r0 arg10_r0 arg11_r0 arg12_r0 k0_hw1 k0_h8 => k0_hw1.2.2.2.2.2.2.2.2.2.2.2.2.2.2.1 k0_h8
theorem k0_off27_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h11 : k0_cond11 i k0_t1 arg12_r0 = 1#1), ∀ a, (k0_off27 arg11_r0) a + S1x8x2048.size a ≤ S2x8x2048.size a := fun i k0_t1 arg6_r0 arg7_r0 arg8_r0 arg9_r0 arg10_r0 arg11_r0 arg12_r0 k0_hw1 k0_h11 => k0_hw1.2.2.2.2.2.2.2.2.2.2.2.2.2.2.2.1 k0_h11
theorem k0_off28_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h11 : k0_cond11 i k0_t1 arg12_r0 = 1#1), ∀ a, (k0_off28 i arg12_r0) a + S8x2048.size a ≤ S16384x2048.size a := fun i k0_t1 arg6_r0 arg7_r0 arg8_r0 arg9_r0 arg10_r0 arg11_r0 arg12_r0 k0_hw1 k0_h11 => k0_hw1.2.2.2.2.2.2.2.2.2.2.2.2.2.2.2.2.1 k0_h11
theorem k0_off29_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 i k0_t1 arg6_r0 arg7_r0 arg8_r0 arg9_r0 arg10_r0 arg11_r0 arg12_r0), ∀ (k0_h11 : k0_cond11 i k0_t1 arg12_r0 = 1#1), ∀ a, (k0_off29 arg11_r0) a + S1.size a ≤ S2.size a := fun i k0_t1 arg6_r0 arg7_r0 arg8_r0 arg9_r0 arg10_r0 arg11_r0 arg12_r0 k0_hw1 k0_h11 => k0_hw1.2.2.2.2.2.2.2.2.2.2.2.2.2.2.2.2.2 k0_h11

def k0_off30 (v45_5_r0 : BitVec 32) : Fin 3 → Nat :=
  let c2_i32_67_r0 : BitVec 32 := 2#32
  let v66_r0 : BitVec 32 := Scalar.remui v45_5_r0 c2_i32_67_r0
  let c0_i32_69_r0 : BitVec 32 := 0#32
  let c0_i32_70_r0 : BitVec 32 := 0#32
  ![v66_r0.toNat, 0, 0]

def k0_off31 (i : grid0.Coords) (v45_6_r0 : BitVec 32) : Fin 2 → Nat :=
  let c8_i32_68_r0 : BitVec 32 := 8#32
  let true_52_r0 : BitVec 1 := 1#1
  let c1_i32_51_r0 : BitVec 32 := 1#32
  let v46_r0 : BitVec 32 := Scalar.subi v45_6_r0 c1_i32_51_r0
  let v47_r0 : BitVec 32 := Scalar.select true_52_r0 v46_r0 v45_6_r0
  let c_m1_i32_53_r0 : BitVec 32 := 4294967295#32
  let v48_r0 : BitVec 1 := Scalar.cmpi .eq v47_r0 c_m1_i32_53_r0
  let c63_i32_54_r0 : BitVec 32 := 63#32
  let v49_r0 : BitVec 32 := Scalar.select v48_r0 c63_i32_54_r0 v47_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v50_r0 : BitVec 32 := Scalar.addi v49_r0 v4
  let v67_r0 : BitVec 32 := Scalar.muli c8_i32_68_r0 v50_r0
  let c0_i32_71_r0 : BitVec 32 := 0#32
  ![v67_r0.toNat, 0]

def k0_chk6 (i : grid0.Coords) (v45_6_r0 : BitVec 32) : Prop :=
  (∀ a, (k0_off31 i v45_6_r0) a + S8x2048.size a ≤ S16384x2048.size a)
theorem k0_off31_inb : ∀ (i : grid0.Coords) (v45_6_r0 : BitVec 32) (k0_hw6 : k0_chk6 i v45_6_r0), ∀ a, (k0_off31 i v45_6_r0) a + S8x2048.size a ≤ S16384x2048.size a := fun i v45_6_r0 k0_hw6 => k0_hw6

def k0_off32 (v45_5_r0 : BitVec 32) : Fin 1 → Nat :=
  let c2_i32_67_r0 : BitVec 32 := 2#32
  let v66_r0 : BitVec 32 := Scalar.remui v45_5_r0 c2_i32_67_r0
  ![v66_r0.toNat]
def k0_off33 (v45_5_r0 : BitVec 32) : Fin 3 → Nat :=
  let c2_i32_67_r0 : BitVec 32 := 2#32
  let v66_r0 : BitVec 32 := Scalar.remui v45_5_r0 c2_i32_67_r0
  let c0_i32_73_r0 : BitVec 32 := 0#32
  let c0_i32_74_r0 : BitVec 32 := 0#32
  ![v66_r0.toNat, 0, 0]

def k0_chk5 (v45_5_r0 : BitVec 32) : Prop :=
  (∀ a, (k0_off30 v45_5_r0) a + S1x8x2048.size a ≤ S2x8x2048.size a) ∧
  (∀ a, (k0_off32 v45_5_r0) a + S1.size a ≤ S2.size a) ∧
  (∀ a, (k0_off33 v45_5_r0) a + S1x8x2048.size a ≤ S2x8x2048.size a)
theorem k0_off30_inb : ∀ (v45_5_r0 : BitVec 32) (k0_hw5 : k0_chk5 v45_5_r0), ∀ a, (k0_off30 v45_5_r0) a + S1x8x2048.size a ≤ S2x8x2048.size a := fun v45_5_r0 k0_hw5 => k0_hw5.1
theorem k0_off32_inb : ∀ (v45_5_r0 : BitVec 32) (k0_hw5 : k0_chk5 v45_5_r0), ∀ a, (k0_off32 v45_5_r0) a + S1.size a ≤ S2.size a := fun v45_5_r0 k0_hw5 => k0_hw5.2.1
theorem k0_off33_inb : ∀ (v45_5_r0 : BitVec 32) (k0_hw5 : k0_chk5 v45_5_r0), ∀ a, (k0_off33 v45_5_r0) a + S1x8x2048.size a ≤ S2x8x2048.size a := fun v45_5_r0 k0_hw5 => k0_hw5.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x16384x2048 : Shape := ⟨3, ![2, 16384, 2048]⟩
abbrev S1x16384x2048 : Shape := ⟨3, ![1, 16384, 2048]⟩
abbrev S16384x2048 : Shape := ⟨2, ![16384, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S1x16384x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S1x16384x2048, .f32⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .i32⟩
  | .hbm, ⟨11, _⟩ => ⟨S_, .i32⟩
  | .hbm, ⟨12, _⟩ => ⟨S16384x2048, .i32⟩
  | .hbm, ⟨13, _⟩ => ⟨S16384x2048, .i32⟩
  | .hbm, ⟨14, _⟩ => ⟨S16384x2048, .i32⟩
  | .hbm, ⟨15, _⟩ => ⟨S16384x2048, .i32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [BitOps F]
-- ==== InProj.lean ====
abbrev S8192x2048 : Shape := ⟨2, ![8192, 2048]⟩
abbrev S2048 : Shape := ⟨1, ![2048]⟩
abbrev S2048x6912 : Shape := ⟨2, ![2048, 6912]⟩
abbrev S1x2048 : Shape := ⟨2, ![1, 2048]⟩
abbrev S8192x6912 : Shape := ⟨2, ![8192, 6912]⟩
abbrev S512x2048 : Shape := ⟨2, ![512, 2048]⟩
abbrev S2048x2304 : Shape := ⟨2, ![2048, 2304]⟩
abbrev S512x2304 : Shape := ⟨2, ![512, 2304]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .f32⟩
  | .hbm, ⟨3, _⟩ => ⟨S2048x6912, .bf16⟩
  | .hbm, ⟨4, _⟩ => ⟨S1x2048, .f32⟩
  | .hbm, ⟨5, _⟩ => ⟨S8192x6912, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2304, .bf16⟩
  | .local _ .vmem, ⟨4, _⟩ => ⟨S2048x2304, .bf16⟩
  | .local _ .vmem, ⟨5, _⟩ => ⟨S512x2304, .f32⟩
  | .local _ .vmem, ⟨6, _⟩ => ⟨S512x2304, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8192x2048 : Shape := ⟨2, ![8192, 2048]⟩
abbrev S2048 : Shape := ⟨1, ![2048]⟩
abbrev S2048x6912 : Shape := ⟨2, ![2048, 6912]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6912 : Shape := ⟨2, ![8192, 6912]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6912, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x6912, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S8192x768 : Shape := ⟨2, ![8192, 768]⟩
abbrev S8192x512 : Shape := ⟨2, ![8192, 512]⟩
abbrev S8192x2048 : Shape := ⟨2, ![8192, 2048]⟩
abbrev S2048x2048 : Shape := ⟨2, ![2048, 2048]⟩
abbrev S512x768 : Shape := ⟨2, ![512, 768]⟩
abbrev S512x512 : Shape := ⟨2, ![512, 512]⟩
abbrev S512x2048 : Shape := ⟨2, ![512, 2048]⟩
abbrev S768x2048 : Shape := ⟨2, ![768, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x768, .bf16⟩
  | .hbm, ⟨3, _⟩ => ⟨S8192x2048, .f32⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x768 : Shape := ⟨2, ![8192, 768]⟩
abbrev S8192x512 : Shape := ⟨2, ![8192, 512]⟩
abbrev S8192x2048 : Shape := ⟨2, ![8192, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x768, .bf16⟩
  | .hbm, ⟨3, _⟩ => ⟨S8192x2048, .f32⟩
  | .hbm, ⟨4, _⟩ => ⟨S2048x2048, .f32⟩
  | .hbm, ⟨5, _⟩ => ⟨S8192x768, .f32⟩
  | .hbm, ⟨6, _⟩ => ⟨S8192x512, .f32⟩
  | .hbm, ⟨7, _⟩ => ⟨S8192x768, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FinalNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ShortConv.lean ====
abbrev S2x4096x6912 : Shape := ⟨3, ![2, 4096, 6912]⟩
abbrev S3x512 : Shape := ⟨2, ![3, 512]⟩
abbrev S2x4096x512 : Shape := ⟨3, ![2, 4096, 512]⟩
abbrev S1x4096x256 : Shape := ⟨3, ![1, 4096, 256]⟩
abbrev S3x256 : Shape := ⟨2, ![3, 256]⟩
abbrev S4112x256 : Shape := ⟨2, ![4112, 256]⟩
abbrev S8x256 : Shape := ⟨2, ![8, 256]⟩
abbrev S1x512x256 : Shape := ⟨3, ![1, 512, 256]⟩
abbrev S512x256 : Shape := ⟨2, ![512, 256]⟩
abbrev S1x256 : Shape := ⟨2, ![1, 256]⟩

abbrev nBuf : Space → Nat
  | .hbm => 3
  | .vmem => 11
  | .smem => 0
  | _ => 0

abbrev bufTy : (tb : Table) → Fin (tcTables nBuf tb) → BufTy
  | .hbm, ⟨0, _⟩ => ⟨S2x4096x6912, .f32⟩
  | .hbm, ⟨1, _⟩ => ⟨S3x512, .f32⟩
  | .hbm, ⟨2, _⟩ => ⟨S2x4096x512, .bf16⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S3x256, .f32⟩
  | .local _ .vmem, ⟨7, _⟩ => ⟨S3x256, .f32⟩
  | .local _ .vmem, ⟨8, _⟩ => ⟨S1x4096x256, .bf16⟩
  | .local _ .vmem, ⟨9, _⟩ => ⟨S1x4096x256, .bf16⟩
  | .local _ .vmem, ⟨10, _⟩ => ⟨S4112x256, .f32⟩
  | _, _ => ⟨S2x4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShortConvIdeal.lean ====
abbrev S2x4096x6912 : Shape := ⟨3, ![2, 4096, 6912]⟩
abbrev S3x512 : Shape := ⟨2, ![3, 512]⟩
abbrev S2x4096x512 : Shape := ⟨3, ![2, 4096, 512]⟩
abbrev S1x4096x256 : Shape := ⟨3, ![1, 4096, 256]⟩
abbrev S3x256 : Shape := ⟨2, ![3, 256]⟩
abbrev S4112x256 : Shape := ⟨2, ![4112, 256]⟩
abbrev S8x256 : Shape := ⟨2, ![8, 256]⟩
abbrev S1x512x256 : Shape := ⟨3, ![1, 512, 256]⟩
abbrev S512x256 : Shape := ⟨2, ![512, 256]⟩
abbrev S1x256 : Shape := ⟨2, ![1, 256]⟩

abbrev nBuf : Space → Nat
  | .hbm => 3
  | .vmem => 11
  | .smem => 0
  | _ => 0

abbrev bufTy : (tb : Table) → Fin (tcTables nBuf tb) → BufTy
  | .hbm, ⟨0, _⟩ => ⟨S2x4096x6912, .f32⟩
  | .hbm, ⟨1, _⟩ => ⟨S3x512, .f32⟩
  | .hbm, ⟨2, _⟩ => ⟨S2x4096x512, .bf16⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S3x256, .f32⟩
  | .local _ .vmem, ⟨7, _⟩ => ⟨S3x256, .f32⟩
  | .local _ .vmem, ⟨8, _⟩ => ⟨S1x4096x256, .bf16⟩
  | .local _ .vmem, ⟨9, _⟩ => ⟨S1x4096x256, .bf16⟩
  | .local _ .vmem, ⟨10, _⟩ => ⟨S4112x256, .f32⟩
  | _, _ => ⟨S2x4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShortConvRefIdeal.lean ====
abbrev S2x4096x6912 : Shape := ⟨3, ![2, 4096, 6912]⟩
abbrev S3x512 : Shape := ⟨2, ![3, 512]⟩
abbrev S2x4096x512 : Shape := ⟨3, ![2, 4096, 512]⟩
abbrev S_ : Shape := ⟨0, ![]⟩
abbrev S2x4098x512 : Shape := ⟨3, ![2, 4098, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x6912, .f32⟩
  | .hbm, ⟨1, _⟩ => ⟨S3x512, .f32⟩
  | .hbm, ⟨2, _⟩ => ⟨S2x4096x512, .f32⟩
  | .hbm, ⟨3, _⟩ => ⟨S2x4096x512, .f32⟩
  | .hbm, ⟨4, _⟩ => ⟨S2x4096x512, .f32⟩
  | .hbm, ⟨5, _⟩ => ⟨S2x4096x512, .f32⟩
  | .hbm, ⟨6, _⟩ => ⟨S_, .i32⟩
  | .hbm, ⟨7, _⟩ => ⟨S_, .f32⟩
  | .hbm, ⟨8, _⟩ => ⟨S2x4098x512, .f32⟩
  | .hbm, ⟨9, _⟩ => ⟨S1x512, .f32⟩
  | .hbm, ⟨10, _⟩ => ⟨S512, .f32⟩
  | .hbm, ⟨11, _⟩ => ⟨S2x4096x512, .f32⟩
  | .hbm, ⟨12, _⟩ => ⟨S1x1x512, .f32⟩
  | .hbm, ⟨13, _⟩ => ⟨S2x4096x512, .f32⟩
  | .hbm, ⟨14, _⟩ => ⟨S2x4096x512, .f32⟩
  | .hbm, ⟨15, _⟩ => ⟨S1x512, .f32⟩
  | .hbm, ⟨16, _⟩ => ⟨S512, .f32⟩
  | .hbm, ⟨17, _⟩ => ⟨S2x4096x512, .f32⟩
  | .hbm, ⟨18, _⟩ => ⟨S1x1x512, .f32⟩
  | .hbm, ⟨19, _⟩ => ⟨S2x4096x512, .f32⟩
  | .hbm, ⟨20, _⟩ => ⟨S2x4096x512, .f32⟩
  | .hbm, ⟨21, _⟩ => ⟨S2x4096x512, .f32⟩
  | .hbm, ⟨22, _⟩ => ⟨S1x512, .f32⟩
  | .hbm, ⟨23, _⟩ => ⟨S512, .f32⟩
  | .hbm, ⟨24, _⟩ => ⟨S2x4096x512, .f32⟩
  | .hbm, ⟨25, _⟩ => ⟨S1x1x512, .f32⟩
  | .hbm, ⟨26, _⟩ => ⟨S2x4096x512, .f32⟩
  | .hbm, ⟨27, _⟩ => ⟨S2x4096x512, .f32⟩
  | .hbm, ⟨28, _⟩ => ⟨S2x4096x512, .f32⟩
  | .hbm, ⟨29, _⟩ => ⟨S2x4096x512, .f32⟩
  | .hbm, ⟨30, _⟩ => ⟨S2x4096x512, .bf16⟩
  | _, _ => ⟨S2x4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== SampleConv.lean ====
abbrev S4x2048x6912 : Shape := ⟨3, ![4, 2048, 6912]⟩
abbrev S3x512 : Shape := ⟨2, ![3, 512]⟩
abbrev S4x2048x512 : Shape := ⟨3, ![4, 2048, 512]⟩
abbrev S1x2048x256 : Shape := ⟨3, ![1, 2048, 256]⟩
abbrev S3x256 : Shape := ⟨2, ![3, 256]⟩
abbrev S2064x256 : Shape := ⟨2, ![2064, 256]⟩
abbrev S8x256 : Shape := ⟨2, ![8, 256]⟩
abbrev S1x512x256 : Shape := ⟨3, ![1, 512, 256]⟩
abbrev S512x256 : Shape := ⟨2, ![512, 256]⟩
abbrev S1x256 : Shape := ⟨2, ![1, 256]⟩

abbrev nBuf : Space → Nat
  | .hbm => 3
  | .vmem => 11
  | .smem => 0
  | _ => 0

abbrev bufTy : (tb : Table) → Fin (tcTables nBuf tb) → BufTy
  | .hbm, ⟨0, _⟩ => ⟨S4x2048x6912, .f32⟩
  | .hbm, ⟨1, _⟩ => ⟨S3x512, .f32⟩
  | .hbm, ⟨2, _⟩ => ⟨S4x2048x512, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S3x256, .f32⟩
  | .local _ .vmem, ⟨7, _⟩ => ⟨S3x256, .f32⟩
  | .local _ .vmem, ⟨8, _⟩ => ⟨S1x2048x256, .bf16⟩
  | .local _ .vmem, ⟨9, _⟩ => ⟨S1x2048x256, .bf16⟩
  | .local _ .vmem, ⟨10, _⟩ => ⟨S2064x256, .f32⟩
  | _, _ => ⟨S4x2048x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SampleConvRefIdeal.lean ====
abbrev S4x2048x6912 : Shape := ⟨3, ![4, 2048, 6912]⟩
abbrev S3x512 : Shape := ⟨2, ![3, 512]⟩
abbrev S4x2048x512 : Shape := ⟨3, ![4, 2048, 512]⟩
abbrev S_ : Shape := ⟨0, ![]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x6912, .f32⟩
  | .hbm, ⟨1, _⟩ => ⟨S3x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S_, .i32⟩
  | .hbm, ⟨7, _⟩ => ⟨S_, .f32⟩
  | .hbm, ⟨8, _⟩ => ⟨S4x2050x512, .f32⟩
  | .hbm, ⟨9, _⟩ => ⟨S1x512, .f32⟩
  | .hbm, ⟨10, _⟩ => ⟨S512, .f32⟩
  | .hbm, ⟨11, _⟩ => ⟨S4x2048x512, .f32⟩
  | .hbm, ⟨12, _⟩ => ⟨S1x1x512, .f32⟩
  | .hbm, ⟨13, _⟩ => ⟨S4x2048x512, .f32⟩
  | .hbm, ⟨14, _⟩ => ⟨S4x2048x512, .f32⟩
  | .hbm, ⟨15, _⟩ => ⟨S1x512, .f32⟩
  | .hbm, ⟨16, _⟩ => ⟨S512, .f32⟩
  | .hbm, ⟨17, _⟩ => ⟨S4x2048x512, .f32⟩
  | .hbm, ⟨18, _⟩ => ⟨S1x1x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S1x512, .f32⟩
  | .hbm, ⟨23, _⟩ => ⟨S512, .f32⟩
  | .hbm, ⟨24, _⟩ => ⟨S4x2048x512, .f32⟩
  | .hbm, ⟨25, _⟩ => ⟨S1x1x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S4x2048x512, .bf16⟩
  | _, _ => ⟨S4x2048x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Route.lean ====
abbrev S8192x2048 : Shape := ⟨2, ![8192, 2048]⟩
abbrev S2048 : Shape := ⟨1, ![2048]⟩
abbrev S2048x2048 : Shape := ⟨2, ![2048, 2048]⟩
abbrev S16x128x128 : Shape := ⟨3, ![16, 128, 128]⟩
abbrev S1x2048 : Shape := ⟨2, ![1, 2048]⟩
abbrev S128x8192 : Shape := ⟨2, ![128, 8192]⟩
abbrev S256x2048 : Shape := ⟨2, ![256, 2048]⟩
abbrev S128x256 : Shape := ⟨2, ![128, 256]⟩
abbrev S16x16x256 : Shape := ⟨3, ![16, 16, 256]⟩
abbrev S56x256 : Shape := ⟨2, ![56, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S256x128 : Shape := ⟨2, ![256, 128]⟩
abbrev S1x256 : Shape := ⟨2, ![1, 256]⟩
abbrev S1x1x256 : Shape := ⟨3, ![1, 1, 256]⟩
abbrev S8x256 : Shape := ⟨2, ![8, 256]⟩
abbrev S1x16x256 : Shape := ⟨3, ![1, 16, 256]⟩
abbrev S16x256 : Shape := ⟨2, ![16, 256]⟩
abbrev S5x256 : Shape := ⟨2, ![5, 256]⟩
abbrev S4x256 : Shape := ⟨2, ![4, 256]⟩
abbrev S3x256 : Shape := ⟨2, ![3, 256]⟩
abbrev S2x256 : Shape := ⟨2, ![2, 256]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S16x128x128, .f32⟩
  | .hbm, ⟨4, _⟩ => ⟨S2048x2048, .bf16⟩
  | .hbm, ⟨5, _⟩ => ⟨S16x128x128, .bf16⟩
  | .hbm, ⟨6, _⟩ => ⟨S1x2048, .f32⟩
  | .hbm, ⟨7, _⟩ => ⟨S8192x2048, .f32⟩
  | .hbm, ⟨8, _⟩ => ⟨S128x8192, .i32⟩
  | .hbm, ⟨9, _⟩ => ⟨S128x8192, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S16x128x128, .bf16⟩
  | .local _ .vmem, ⟨5, _⟩ => ⟨S256x2048, .f32⟩
  | .local _ .vmem, ⟨6, _⟩ => ⟨S256x2048, .f32⟩
  | .local _ .vmem, ⟨7, _⟩ => ⟨S128x256, .i32⟩
  | .local _ .vmem, ⟨8, _⟩ => ⟨S128x256, .i32⟩
  | .local _ .vmem, ⟨9, _⟩ => ⟨S128x256, .f32⟩
  | .local _ .vmem, ⟨10, _⟩ => ⟨S128x256, .f32⟩
  | .local _ .vmem, ⟨11, _⟩ => ⟨S16x16x256, .f32⟩
  | .local _ .vmem, ⟨12, _⟩ => ⟨S16x16x256, .f32⟩
  | .local _ .vmem, ⟨13, _⟩ => ⟨S56x256, .f32⟩
  | .local _ .vmem, ⟨14, _⟩ => ⟨S56x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteRefIdeal.lean ====
abbrev S8192x2048 : Shape := ⟨2, ![8192, 2048]⟩
abbrev S2048 : Shape := ⟨1, ![2048]⟩
abbrev S2048x2048 : Shape := ⟨2, ![2048, 2048]⟩
abbrev S16x128x128 : Shape := ⟨3, ![16, 128, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S16x128x128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Setup.lean ====
/-
  What the proofs about the table-packing program share: the program as the launch theorem sees it, the resource
  algebra, the launch memory's buffers, the packed word of two entries, and the share of each operand and the rows of
  the result that every task gets.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.ViewIndex
public import Idealize.ShloMosaic.Lib.Tactic
public import proofs.«01_k».proof.Proof.Gen.Kernel
public import proofs.«01_k».proof.Proof.Gen.Kernel.Skeleton

@[expose] public section

noncomputable section

namespace Cert.Proof.Pack

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev uLoc (d : Dev nD) : Loc nD τ sig := (SparseCore.T d).loc main_arg0
abbrev vLoc (d : Dev nD) : Loc nD τ sig := (SparseCore.T d).loc main_arg1
abbrev oLoc (d : Dev nD) : Loc nD τ sig := (SparseCore.T d).loc main_v0

abbrev uV : Memref Cert.Kernel.sig Kind.scVector Space.hbm Cert.Kernel.S2x16384x2048 EltTy.f32 := Memref.whole Cert.Kernel.main_arg0_scv
abbrev vV : Memref Cert.Kernel.sig Kind.scVector Space.hbm Cert.Kernel.S2x16384x2048 EltTy.f32 := Memref.whole Cert.Kernel.main_arg1_scv
abbrev oV : Memref Cert.Kernel.sig Kind.scVector Space.hbm Cert.Kernel.S16384x2048 EltTy.i32 := Memref.whole Cert.Kernel.main_v0_scv
abbrev suV : Memref Cert.Kernel.sig Kind.scVector Space.vmem Cert.Kernel.S2x1x8x2048 EltTy.f32 := Memref.whole Cert.Kernel.cc0_scoped0
abbrev svV : Memref Cert.Kernel.sig Kind.scVector Space.vmem Cert.Kernel.S2x1x8x2048 EltTy.f32 := Memref.whole Cert.Kernel.cc0_scoped2
abbrev soV : Memref Cert.Kernel.sig Kind.scVector Space.vmem Cert.Kernel.S2x8x2048 EltTy.i32 := Memref.whole Cert.Kernel.cc0_scoped4

/-- The thread of vector subcore `(L 0, L 1)` of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The packed word -/

/-- The word that holds the bf16 rounding of `a` in its low half and that of `b` in its high half. -/
def PK [BitOps F] (a b : F .f32) : BitVec 32 :=
  IntOp.ori (IntOp.shrui .vector (BitOps.toBits (FloatOps.extf .f32 bitsLt_bf16_f32 (FloatOps.truncf .bf16 bitsLt_bf16_f32 a))) 16#32)
    (BitOps.toBits (FloatOps.extf .f32 bitsLt_bf16_f32 (FloatOps.truncf .bf16 bitsLt_bf16_f32 b)))

/-- The index of row `r`, column `c` of the first table of an operand. -/
def ix0 (x : S16384x2048.Idx) : S2x16384x2048.Idx := fun
  | 0 => ⟨0, by decide⟩ | 1 => x 0 | 2 => x 1 | ⟨_ + 3, h⟩ => absurd h (Nat.not_lt.2 (Nat.le_add_left _ _))

/-- The packed table: each entry the packed word of the two operands' entries there. -/
def OUT [BitOps F] (d : Dev nD) : Buf (Elt F) (oLoc d) := fun x => PK (m (uLoc d) (ix0 x)) (m (vLoc d) (ix0 x))

/-! ## Row sets of the result -/

/-- The elements of rows `lo` to `hi - 1` of the result. -/
def RS (lo hi : ℕ) : Finset S16384x2048.Idx := Finset.univ.filter fun x => lo ≤ (x 0).val ∧ (x 0).val < hi

theorem mem_RS {lo hi : ℕ} {x : S16384x2048.Idx} : x ∈ RS lo hi ↔ lo ≤ (x 0).val ∧ (x 0).val < hi := by
  simp [RS]

theorem RS_subset {lo hi lo' hi' : ℕ} (h : lo' ≤ lo) (h' : hi ≤ hi') : RS lo hi ⊆ RS lo' hi' := fun x hx => by
  rw [mem_RS] at hx ⊢; omega

theorem RS_sdiff_left {lo mid hi : ℕ} (h : lo ≤ mid) (h' : mid ≤ hi) : RS lo hi \ RS lo mid = RS mid hi := by
  ext x; rw [Finset.mem_sdiff, mem_RS, mem_RS, mem_RS]; omega

theorem RS_disjoint {lo mid mid' hi : ℕ} (h : mid ≤ mid') : Disjoint (RS lo mid) (RS mid' hi) := by
  rw [Finset.disjoint_left]; intro x hx hx'; rw [mem_RS] at hx hx'; omega

theorem RS_all : RS 0 16384 = Finset.univ := by
  ext x
  have h : (x 0).val < 16384 := (x 0).isLt
  simp only [mem_RS, Finset.mem_univ, iff_true]; omega

/-- Rows `8192 c` to `8192 (c + 1) - 1`: those of SparseCore `c`. -/
abbrev CS (c : Fin 2) : Finset S16384x2048.Idx := RS (8192 * c.val) (8192 * c.val + 8192)
/-- The first row of task `(c, s)`. -/
abbrev base (c s : ℕ) : ℕ := 512 * s + 8192 * c
/-- The rows of task `(c, s)`. -/
abbrev TS (c : Fin 2) (s : Fin 16) : Finset S16384x2048.Idx := RS (base c.val s.val) (base c.val s.val + 512)

theorem CS_disjoint : ∀ i ∈ (Finset.univ : Finset (Fin 2)), ∀ j ∈ (Finset.univ : Finset (Fin 2)), i ≠ j → Disjoint (CS i) (CS j) := by
  intro i _ j _ h
  rcases Nat.lt_or_gt_of_ne (Fin.val_ne_of_ne h) with hl | hl
  · exact RS_disjoint (by omega)
  · exact (RS_disjoint (by omega)).symm
theorem TS_disjoint (c : Fin 2) : ∀ i ∈ (Finset.univ : Finset (Fin 16)), ∀ j ∈ (Finset.univ : Finset (Fin 16)), i ≠ j → Disjoint (TS c i) (TS c j) := by
  intro i _ j _ h
  rcases Nat.lt_or_gt_of_ne (Fin.val_ne_of_ne h) with hl | hl
  · exact RS_disjoint (by simp only [base]; omega)
  · exact (RS_disjoint (by simp only [base]; omega)).symm
theorem CS_cover : (Finset.univ : Finset (Fin 2)).biUnion CS = Finset.univ := by
  ext x
  have h : (x 0).val < 16384 := (x 0).isLt
  simp only [Finset.mem_biUnion, Finset.mem_univ, true_and, iff_true, mem_RS]
  exact ⟨⟨(x 0).val / 8192, by omega⟩, by dsimp only; omega, by dsimp only; omega⟩
theorem TS_cover (c : Fin 2) : (Finset.univ : Finset (Fin 16)).biUnion (TS c) = CS c := by
  ext x
  simp only [Finset.mem_biUnion, Finset.mem_univ, true_and, mem_RS, base]
  constructor
  · rintro ⟨s, h1, h2⟩; have := s.isLt; omega
  · rintro ⟨h1, h2⟩; exact ⟨⟨((x 0).val - 8192 * c.val) / 512, by omega⟩, by dsimp only; omega, by dsimp only; omega⟩

/-! ## Shares of the operands -/

/-- SparseCore `c`'s share of an operand. -/
abbrev qC (c : Fin 2) : PosShare TreeShare := ShareLeaves.leaf 1 fullShare c
/-- Task `(c, s)`'s share of an operand. -/
abbrev qT (c : Fin 2) (s : Fin 16) : PosShare TreeShare := ShareLeaves.leaf 4 (qC c) s

end Cert.Proof.Pack

end
-- ==== Proof.Inner.lean ====
/-
  The kernel's two inner loops: the row loop and, in it, the loop over groups of eight times sixteen columns. Each of
  the eight steps loads sixteen entries of the row from either operand's slot and stores their packed words in the result's slot.
  At the loops' end the result's slot holds the packed word of the two slots' entries at every index.
-/
module

public import proofs.«01_k».proof.Proof.Setup

@[expose] public section

noncomputable section

namespace Cert.Proof.Pack

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- A slot of an operand, and of the result. -/
abbrev InSlot : Type := Memref sig .scVector .vmem S1x8x2048 .f32
abbrev OutSlot : Type := Memref sig .scVector .vmem S8x2048 .i32

/-- Index `(0, x)` of an operand's slot. -/
def up (x : S8x2048.Idx) : S1x8x2048.Idx := fun
  | 0 => ⟨0, by decide⟩ | 1 => x 0 | 2 => x 1 | ⟨_ + 3, h⟩ => absurd h (Nat.not_lt.2 (Nat.le_add_left _ _))

section Slots

variable (d : Dev nD) (L : grid0.Coords)

/-- The packed words of what two slots hold. -/
def TT (A C : InSlot) (a : Buf (Elt F) (A.view.loc (thr d L))) (b : Buf (Elt F) (C.view.loc (thr d L))) (x : S8x2048.Idx) : BitVec 32 :=
  PK (A.view.read (Elt F) a (up x)) (C.view.read (Elt F) b (up x))

/-- The result's slot holds the packed words on the rows before `r` and on the first `c` columns of row `r`. -/
def Done (A C : InSlot) (O : OutSlot) (a : Buf (Elt F) (A.view.loc (thr d L))) (b : Buf (Elt F) (C.view.loc (thr d L)))
    (g : Buf (Elt F) (O.view.loc (thr d L))) (r c : ℕ) : Prop :=
  ∀ x : S8x2048.Idx, ((x 0).val < r ∨ (x 0).val = r ∧ (x 1).val < c) → O.view.read (Elt F) g x = TT d L A C a b x

/-- The three slots, the result's holding the packed words up to row `r`, column `c`. -/
abbrev Slots (A C : InSlot) (O : OutSlot) (a : Buf (Elt F) (A.view.loc (thr d L))) (b : Buf (Elt F) (C.view.loc (thr d L))) (r c : ℕ) : sProp 𝕄 :=
  iprop((A.view.loc (thr d L) ↦[A.view.set]{fullShare} a) ∗ (C.view.loc (thr d L) ↦[C.view.set]{fullShare} b)
    ∗ ∃ g, (O.view.loc (thr d L) ↦[O.view.set]{fullShare} g) ∗ ⌜Done d L A C O a b g r c⌝)

/-- Lane `j`'s index in the sixteen loaded. -/
def lane (j : S1x16.Idx) : S1x1x16.Idx := fun
  | 0 => ⟨0, by decide⟩ | 1 => ⟨0, by decide⟩ | 2 => j 1 | ⟨_ + 3, h⟩ => absurd h (Nat.not_lt.2 (Nat.le_add_left _ _))

theorem done_step (A C : InSlot) (O : OutSlot) (a : Buf (Elt F) (A.view.loc (thr d L))) (b : Buf (Elt F) (C.view.loc (thr d L)))
    (g : Buf (Elt F) (O.view.loc (thr d L))) (r c : ℕ) {oA : Fin 3 → ℕ} {oO : Fin 2 → ℕ} (hoA : oA = ![0, r, c]) (hoO : oO = ![r, c])
    (hA : ∀ i, oA i + S1x1x16.size i ≤ S1x8x2048.size i) (hO : ∀ i, oO i + S1x16.size i ≤ S8x2048.size i)
    (w : Vec F S1x16 .i32)
    (hw : ∀ j, w j = PK ((A.access (Rect.unit (s := S1x8x2048) oA S1x1x16.size hA)).read (Elt F) a (lane j)) ((C.access (Rect.unit (s := S1x8x2048) oA S1x1x16.size hA)).read (Elt F) b (lane j)))
    (h : Done d L A C O a b g r c) :
    Done d L A C O a b ((O.access (Rect.unit (s := S8x2048) oO S1x16.size hO)).write (Elt F) g w Finset.univ) r (c + 16) := by
  subst hoA hoO
  intro x hx
  by_cases hin : (x 0).val = r ∧ c ≤ (x 1).val
  · obtain ⟨h0, h1⟩ := hin
    have h2 : (x 1).val < c + 16 := by rcases hx with hx | hx <;> omega
    let j : S1x16.Idx := fun
      | 0 => ⟨0, by decide⟩ | 1 => ⟨(x 1).val - c, by show (x 1).val - c < 16; omega⟩ | ⟨_ + 2, h⟩ => absurd h (Nat.not_lt.2 (Nat.le_add_left _ _))
    have ex : x = (Rect.unit (s := S8x2048) ![r, c] S1x16.size hO).emb j := by
      refine Shape.idx_ext₂ ?_ ?_
      · show (x 0).val = r + 1 * 0; omega
      · show (x 1).val = c + 1 * ((x 1).val - c); omega
    have e1 : O.view.read (Elt F) ((O.access (Rect.unit (s := S8x2048) ![r, c] S1x16.size hO)).write (Elt F) g w Finset.univ) x = w j := by
      conv_lhs => rw [ex]
      exact View.read_slice_write_emb (v := O.view) (Rect.unit (s := S8x2048) ![r, c] S1x16.size hO) g w (M := Finset.univ) (x := j) (Finset.mem_univ _)
    rw [e1, hw]
    have eu : (Rect.unit (s := S1x8x2048) ![0, r, c] S1x1x16.size hA).emb (lane j) = up x := by
      refine Shape.idx3_ext ?_ ?_ ?_
      · show 0 + 1 * 0 = 0; rfl
      · show r + 1 * 0 = (x 0).val; omega
      · show c + 1 * ((x 1).val - c) = (x 1).val; omega
    unfold TT
    rw [← eu]
    rfl
  · have e1 : O.view.read (Elt F) ((O.access (Rect.unit (s := S8x2048) ![r, c] S1x16.size hO)).write (Elt F) g w Finset.univ) x = O.view.read (Elt F) g x := by
      refine View.read_slice_write_of_not_mem (v := O.view) (Rect.unit (s := S8x2048) ![r, c] S1x16.size hO) g w Finset.univ ?_
      intro hm
      have hm' : x ∈ (Rect.unit (s := S8x2048) ![r, c] S1x16.size hO).set := by rw [← Rect.map_emb_univ]; exact hm
      rw [Rect.mem_set_unit] at hm'
      have h0 := hm' 0
      have h1 := hm' 1
      have e0 : r ≤ (x 0).val ∧ (x 0).val < r + 1 := h0
      have e1 : c ≤ (x 1).val ∧ (x 1).val < c + 16 := h1
      exact hin ⟨by omega, e1.1⟩
    rw [e1]
    refine h x ?_
    rcases hx with hx | ⟨hx, hx'⟩
    · exact .inl hx
    · by_cases hc : c ≤ (x 1).val
      · exact absurd ⟨hx, hc⟩ hin
      · exact .inr ⟨hx, by omega⟩

set_option maxHeartbeats 1000000 in
/-- One of the eight steps. -/
theorem wp_group (A C : InSlot) (O : OutSlot) (a : Buf (Elt F) (A.view.loc (thr d L))) (b : Buf (Elt F) (C.view.loc (thr d L))) (r c : ℕ)
    {oA : Fin 3 → ℕ} {oO : Fin 2 → ℕ} (hoA : oA = ![0, r, c]) (hoO : oO = ![r, c])
    (hA : ∀ i, oA i + S1x1x16.size i ≤ S1x8x2048.size i) (hO : ∀ i, oO i + S1x16.size i ≤ S8x2048.size i)
    (w : Vec F S1x1x16 .f32 → Vec F S1x1x16 .f32 → Vec F S1x16 .i32) (hw : ∀ x y j, w x y j = PK (x (lane j)) (y (lane j)))
    {hlA hlC hlO hx hm} {α : Type} {k : PUnit → Prog (TpuEff nD τ sig (Elt F) Λ₀ (thr d L).2) α} {Q : α → sProp 𝕄} :
    Slots d L A C O a b r c
      ⊢ iprop((Slots d L A C O a b r (c + 16) -∗ wp frame (wpE (defs₀ (F := F)) 𝒱₀ (thr d L) none) Set.univ (k ⟨⟩) Q)
        -∗ wp frame (wpE (defs₀ (F := F)) 𝒱₀ (thr d L) none) Set.univ
          (.op (.load A (Rect.unit (s := S1x8x2048) oA S1x1x16.size hA).toLoadRect hlA) fun x =>
            .op (.load C (Rect.unit (s := S1x8x2048) oA S1x1x16.size hA).toLoadRect hlC) fun y =>
              .op (.load O (Rect.unit (s := S8x2048) oO S1x16.size hO).toLoadRect hlO) fun _ =>
                .op (.store O (Rect.unit (s := S8x2048) oO S1x16.size hO) (w x y) Finset.univ hx hm) k) Q) := by
  iintro ⟨HA, HC, %g, HO, %hd⟩ Hk
  iapply (wp_load_rect 𝒱₀ (thr d L) none Set.univ (m := A) (r := Rect.unit (s := S1x8x2048) oA S1x1x16.size hA) (View.set_slice_subset A.view _)) $$ HA
  iintro HA
  iapply (wp_load_rect 𝒱₀ (thr d L) none Set.univ (m := C) (r := Rect.unit (s := S1x8x2048) oA S1x1x16.size hA) (View.set_slice_subset C.view _)) $$ HC
  iintro HC
  iapply (wp_load_rect 𝒱₀ (thr d L) none Set.univ (m := O) (r := Rect.unit (s := S8x2048) oO S1x16.size hO) (View.set_slice_subset O.view _)) $$ HO
  iintro HO
  iapply (wp_store 𝒱₀ (thr d L) none Set.univ (m := O) (r := Rect.unit (s := S8x2048) oO S1x16.size hO) (View.set_slice_subset O.view _)) $$ HO
  iintro HO
  iapply Hk
  isplitl [HA]; · iexact HA
  isplitl [HC]; · iexact HC
  iexists _
  isplitl [HO]; · iexact HO
  ipureintro
  exact done_step d L A C O a b g r c hoA hoO hA hO _ (fun j => hw _ _ j) hd

end Slots

/-! ## The loops -/

theorem cast16 (x y : Vec F S1x1x16 .f32) (j : S1x16.Idx) :
    shapeCast S1x16 (fun i => PK (shapeCast S16 x shapeCasts_S1x1x16_S16 i) (shapeCast S16 y shapeCasts_S1x1x16_S16 i)) shapeCasts_S16_S1x16 j = PK (x (lane j)) (y (lane j)) := by
  have e (z : Vec F S1x1x16 .f32) (i : S16.Idx) : shapeCast S16 z shapeCasts_S1x1x16_S16 i = z (fun | 0 => ⟨0, by decide⟩ | 1 => ⟨0, by decide⟩ | 2 => i 0 | ⟨_ + 3, h⟩ => absurd h (Nat.not_lt.2 (Nat.le_add_left _ _))) := by
    refine shapeCast_apply _ _ _ _ ?_
    rw [Shape.rowMajor_val_three, Shape.rowMajor_val_one]
    show (0 * _ + 0) * _ + (i 0).val = (i 0).val
    omega
  have e1 := shapeCast_addUnit_apply ![16] (fun i => PK (shapeCast S16 x shapeCasts_S1x1x16_S16 i) (shapeCast S16 y shapeCasts_S1x1x16_S16 i)) shapeCasts_S16_S1x16 j
  refine e1.trans ?_
  have ej : (fun | 0 => ⟨0, by decide⟩ | 1 => ⟨0, by decide⟩ | 2 => j 1 | ⟨_ + 3, h⟩ => absurd h (Nat.not_lt.2 (Nat.le_add_left _ _)) : S1x1x16.Idx) = lane j := by
    refine Shape.idx3_ext rfl rfl rfl
  exact congrArg₂ PK ((e x _).trans (congrArg x ej)) ((e y _).trans (congrArg y ej))

variable (d : Dev nD) (i : grid0.Coords) (arg2 : Memref sig .scVector .hbm S2x16384x2048 .f32) (harg2 : arg2.IsWhole) (arg3 : Memref sig .scVector .hbm S2x16384x2048 .f32) (harg3 : arg3.IsWhole) (arg4 : Memref sig .scVector .hbm S16384x2048 .i32) (harg4 : arg4.IsWhole)
  (alloca : Memref sig .scVector .vmem S2x1x8x2048 .f32) (halloca : alloca.IsWhole) (v5 : DmaSems sig S2) (alloca_0 : Memref sig .scVector .vmem S2x1x8x2048 .f32) (halloca_0 : alloca_0.IsWhole) (v6 : DmaSems sig S2) (alloca_1 : Memref sig .scVector .vmem S2x8x2048 .i32) (halloca_1 : alloca_1.IsWhole) (v7 : DmaSems sig S2)
  (k0_t1 : Fin k0_t1_loop.trips) (arg6 arg7 arg8 arg9 arg10 arg11 arg12 : BitVec 32) (k0_hw4 : k0_chk4 arg10) (k0_hw3 : k0_chk3 arg9) (k0_hw2 : k0_chk2 arg7) (k0_hw1 : k0_chk1 i k0_t1 arg6 arg7 arg8 arg9 arg10 arg11 arg12)
  (arg5 : BitVec 32) (v76 v77 : BitVec 1) (v78 v83 v88 : BitVec 32) (v107 : BitVec 1)

/-- Slot `w % 2` of an operand's two. -/
abbrev inSlot (B : Memref sig .scVector .vmem S2x1x8x2048 .f32) (w : BitVec 32) (h : ∀ a, k0_off16 w a + S1x1x8x2048.size a ≤ S2x1x8x2048.size a) : InSlot :=
  (B.slice (Rect.unit (s := S2x1x8x2048) (k0_off16 w) S1x1x8x2048.size h) (fun _ => rfl)).squeeze S1x8x2048 squeezes_S1x1x8x2048_S1x8x2048
/-- Slot `w % 2` of the result's two. -/
abbrev outSlot (B : Memref sig .scVector .vmem S2x8x2048 .i32) (w : BitVec 32) (h : k0_chk4 w) : OutSlot :=
  (B.slice (Rect.unit (s := S2x8x2048) (k0_off19 w) S1x8x2048.size (k0_off19_inb w h)) (fun _ => rfl)).squeeze S8x2048 squeezes_S1x8x2048_S8x2048

theorem trips_t3 : k0_t3_loop.trips = 16 := by decide
theorem trips_t2 : k0_t2_loop.trips = 8 := by decide

set_option maxHeartbeats 4000000 in
/-- One group of a row: columns `128 * k` to `128 * k + 127`. -/
theorem wp_t3 (k0_t2 : Fin k0_t2_loop.trips) (v190 : BitVec 32) (k0_t3 : Fin k0_t3_loop.trips) (u : Unit)
    (a : Buf (Elt F) ((inSlot alloca arg7 k0_hw2.1).view.loc (thr d i))) (b : Buf (Elt F) ((inSlot alloca_0 arg9 k0_hw3.1).view.loc (thr d i))) :
    Slots d i (inSlot alloca arg7 k0_hw2.1) (inSlot alloca_0 arg9 k0_hw3.1) (outSlot alloca_1 arg10 k0_hw4) a b k0_t2.val (128 * k0_t3.val)
      ⊢ wp frame (wpE (defs₀ (F := F)) 𝒱₀ (thr d i) none) Set.univ
          (k0_t3_body (F := F) i arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107 k0_t2 v190 k0_t3 u)
          fun _ => Slots d i (inSlot alloca arg7 k0_hw2.1) (inSlot alloca_0 arg9 k0_hw3.1) (outSlot alloca_1 arg10 k0_hw4) a b k0_t2.val (128 * (k0_t3.val + 1)) := by
  simp only [k0_t3_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel,
    Prog.lift, Prog.bind_op, Prog.bind_ret, Prog.pure_eq_ret, Prog.bind_assoc]
  iintro H
  have hO (r : Fin 8) := k0_off20_eq k0_t2 k0_t3 r
  have hA (r : Fin 7) := k0_off22_eq k0_t2 k0_t3 r
  iapply (wp_group d i (inSlot alloca arg7 k0_hw2.1) (inSlot alloca_0 arg9 k0_hw3.1) (outSlot alloca_1 arg10 k0_hw4) a b k0_t2.val (128 * k0_t3.val) (k0_off17_eq k0_t2 k0_t3) (hO 0) _ _ (fun x y => shapeCast S1x16 (k0_pay1 x y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 16) (hA 0) (hO 1) _ _ (fun x y => shapeCast S1x16 (k0_pay2 x y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 32) (hA 1) (hO 2) _ _ (fun x y => shapeCast S1x16 (k0_pay4 (k0_pay3 x) y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 48) (hA 2) (hO 3) _ _ (fun x y => shapeCast S1x16 (k0_pay5 x y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 64) (hA 3) (hO 4) _ _ (fun x y => shapeCast S1x16 (k0_pay6 x y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 80) (hA 4) (hO 5) _ _ (fun x y => shapeCast S1x16 (k0_pay7 x y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 96) (hA 5) (hO 6) _ _ (fun x y => shapeCast S1x16 (k0_pay9 (k0_pay8 x) y) shapeCasts_S16_S1x16) (fun x y j => cast16 x y j)) $$ H
  iintro H
  iapply (wp_group d i (inSlot alloca arg7 k0_hw2.1) (inSlot alloca_0 arg9 k0_hw3.1) (outSlot alloca_1 arg10 k0_hw4) a b k0_t2.val (128 * k0_t3.val + 112) (hA 6) (hO 7) _ _ (fun x y => shapeCast S1x16 (k0_pay10 x y) shapeCasts_S16_S1x16) (fun x y j => cast16 x y j)) $$ H
  iintro H
  rw [wp_ret]
  imodintro
  iexact H

theorem Done.row {A C : InSlot} {O : OutSlot} {a : Buf (Elt F) (A.view.loc (thr d i))} {b : Buf (Elt F) (C.view.loc (thr d i))}
    {g : Buf (Elt F) (O.view.loc (thr d i))} {r : ℕ} (h : Done d i A C O a b g r 2048) : Done d i A C O a b g (r + 1) 0 := by
  intro x hx
  have h1 : (x 1).val < 2048 := (x 1).isLt
  exact h x (by omega)

/-- One row. -/
theorem wp_t2 (k0_t2 : Fin k0_t2_loop.trips) (u : Unit)
    (a : Buf (Elt F) ((inSlot alloca arg7 k0_hw2.1).view.loc (thr d i))) (b : Buf (Elt F) ((inSlot alloca_0 arg9 k0_hw3.1).view.loc (thr d i))) :
    Slots d i (inSlot alloca arg7 k0_hw2.1) (inSlot alloca_0 arg9 k0_hw3.1) (outSlot alloca_1 arg10 k0_hw4) a b k0_t2.val 0
      ⊢ wp frame (wpE (defs₀ (F := F)) 𝒱₀ (thr d i) none) Set.univ
          (k0_t2_body (F := F) i arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107 k0_t2 u)
          fun _ => Slots d i (inSlot alloca arg7 k0_hw2.1) (inSlot alloca_0 arg9 k0_hw3.1) (outSlot alloca_1 arg10 k0_hw4) a b (k0_t2.val + 1) 0 := by
  simp only [k0_t2_body, Prog.lift, Prog.bind_op, Prog.bind_ret, Prog.pure_eq_ret, Prog.bind_assoc]
  iintro H
  iapply (Scf.wp_for_bind _ _ _ _ _ _ _ _ _ (fun n _ => Slots d i (inSlot alloca arg7 k0_hw2.1) (inSlot alloca_0 arg9 k0_hw3.1) (outSlot alloca_1 arg10 k0_hw4) a b k0_t2.val (128 * n))
    (fun k u => wp_t3 d i arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107 k0_t2 _ k u a b)) $$ H
  iintro %u' ⟨HA, HC, %g, HO, %hd⟩
  rw [wp_ret]
  imodintro
  isplitl [HA]; · iexact HA
  isplitl [HC]; · iexact HC
  iexists g
  isplitl [HO]; · iexact HO
  ipureintro
  exact Done.row d i hd

/-- All rows: the result's slot holds the packed words. -/
theorem wp_rows {α : Type} {kk : Unit → Prog (TpuEff nD τ sig (Elt F) Λ₀ (thr d i).2) α} {Q : α → sProp 𝕄}
    (a : Buf (Elt F) ((inSlot alloca arg7 k0_hw2.1).view.loc (thr d i))) (b : Buf (Elt F) ((inSlot alloca_0 arg9 k0_hw3.1).view.loc (thr d i))) :
    Slots d i (inSlot alloca arg7 k0_hw2.1) (inSlot alloca_0 arg9 k0_hw3.1) (outSlot alloca_1 arg10 k0_hw4) a b 0 0
      ⊢ iprop((Slots d i (inSlot alloca arg7 k0_hw2.1) (inSlot alloca_0 arg9 k0_hw3.1) (outSlot alloca_1 arg10 k0_hw4) a b 8 0 -∗ wp frame (wpE (defs₀ (F := F)) 𝒱₀ (thr d i) none) Set.univ (kk ()) Q)
        -∗ wp frame (wpE (defs₀ (F := F)) 𝒱₀ (thr d i) none) Set.univ
          (Scf.Loop.for k0_t2_loop k0_t2_ok ⟨⟩ (k0_t2_body (F := F) i arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107) >>= kk) Q) := by
  iintro H Hk
  iapply (Scf.wp_for_bind _ _ _ _ _ _ _ _ _ (fun n _ => Slots d i (inSlot alloca arg7 k0_hw2.1) (inSlot alloca_0 arg9 k0_hw3.1) (outSlot alloca_1 arg10 k0_hw4) a b n 0)
    (fun k u => wp_t2 d i arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107 k u a b)) $$ H
  iintro %u' H
  iapply Hk
  iexact H

end Cert.Proof.Pack

end
-- ==== Proof.Words.lean ====
/-
  The words of the outer loop: at trip `t` the seven words it carries are functions of `t`, the conditions it branches
  on and the offsets it slices by are those functions' values, and the words it yields are those of trip `t + 1`.
-/
module

public import proofs.«01_k».proof.Proof.Inner

@[expose] public section

namespace Cert.Proof.Pack

open Cert.Kernel Cert.Kernel.Gen

open Idealize.ShloMosaic

theorem trips_t1 : k0_t1_loop.trips = 64 := by decide

/-- The word of the input streams' next slot, of every stream's current slot, of the result stream's previous slot, and
    of the current block, at trip `t`. -/
def w6 (t : ℕ) : BitVec 32 := BitVec.ofNat 32 (min (t + 1) 64)
def w7 (t : ℕ) : BitVec 32 := BitVec.ofNat 32 t
def w11 (t : ℕ) : BitVec 32 := BitVec.ofNat 32 (t - 1)
def w12 (t : ℕ) : BitVec 32 := BitVec.ofNat 32 (t % 64)

/-- The first block of task `i`. -/
def w4 (i : grid0.Coords) : BitVec 32 :=
  Scalar.muli (Scalar.addi (Scalar.addi 0#32 (Scalar.muli (BitVec.ofNat 32 (i 1).val) 1#32)) (Scalar.muli (BitVec.ofNat 32 (i 0).val) 16#32)) 64#32

/-- Row of block `t` of task `i`. -/
def row (i : grid0.Coords) (t : ℕ) : ℕ := 8 * t + (512 * (i 1).val + 8192 * (i 0).val)

theorem cond1_iff : ∀ (i : grid0.Coords) (t : Fin k0_t1_loop.trips), k0_cond1 i t (w12 t) = 1#1 ↔ t.val < 63 := by decide +kernel
theorem cond2_iff : ∀ (i : grid0.Coords) (t : Fin k0_t1_loop.trips), k0_cond2 i t (w12 t) = 1#1 ↔ t.val < 63 := by decide +kernel
theorem cond3_eq : ∀ (i : grid0.Coords) (t : Fin k0_t1_loop.trips), k0_cond3 i t (w12 t) = 1#1 := by decide +kernel
theorem cond4_eq : ∀ (i : grid0.Coords) (t : Fin k0_t1_loop.trips), k0_cond4 i t (w12 t) = 1#1 := by decide +kernel
theorem cond8_eq : ∀ (i : grid0.Coords) (t : Fin k0_t1_loop.trips), k0_cond8 i t (w12 t) = 1#1 := by decide +kernel
theorem cond11_iff : ∀ (i : grid0.Coords) (t : Fin k0_t1_loop.trips), k0_cond11 i t (w12 t) = 1#1 ↔ t.val ≠ 0 := by decide +kernel

theorem off5_eq : ∀ (i : grid0.Coords) (t : Fin k0_t1_loop.trips), t.val < 63 → k0_off5 i (w12 t) = ![0, row i (t + 1), 0] := by decide +kernel
theorem off8_eq : ∀ (i : grid0.Coords) (t : Fin k0_t1_loop.trips), t.val < 63 → k0_off8 i (w12 t) = ![0, row i (t + 1), 0] := by decide +kernel
theorem off25_eq : ∀ (i : grid0.Coords) (t : Fin k0_t1_loop.trips), k0_off25 i (w12 t) = ![row i t, 0] := by decide +kernel
theorem off4_eq : ∀ (t : Fin k0_t1_loop.trips), k0_off4 (w6 t) = ![(t.val + 1) % 2, 0, 0, 0] := by decide +kernel
theorem off6_eq : ∀ (t : Fin k0_t1_loop.trips), k0_off6 (w6 t) = ![(t.val + 1) % 2] := by decide +kernel
theorem off16_eq : ∀ (t : Fin k0_t1_loop.trips), k0_off16 (w7 t) = ![t.val % 2, 0, 0, 0] := by decide +kernel
theorem off12_eq : ∀ (t : Fin k0_t1_loop.trips), k0_off12 (w7 t) = ![t.val % 2] := by decide +kernel
theorem off19_eq : ∀ (t : Fin k0_t1_loop.trips), k0_off19 (w7 t) = ![t.val % 2, 0, 0] := by decide +kernel
theorem off27_eq : ∀ (t : Fin k0_t1_loop.trips), t.val ≠ 0 → k0_off27 (w11 t) = ![(t.val + 1) % 2, 0, 0] := by decide +kernel
theorem off29_eq : ∀ (t : Fin k0_t1_loop.trips), t.val ≠ 0 → k0_off29 (w11 t) = ![(t.val + 1) % 2] := by decide +kernel

theorem chk1 : ∀ (i : grid0.Coords) (t : Fin k0_t1_loop.trips), k0_chk1 i t (w6 t) (w7 t) (w6 t) (w7 t) (w7 t) (w11 t) (w12 t) := by decide +kernel
theorem chk2 : ∀ (t : Fin k0_t1_loop.trips), k0_chk2 (w7 t) := by decide +kernel
theorem chk3 : ∀ (t : Fin k0_t1_loop.trips), k0_chk3 (w7 t) := by decide +kernel
theorem chk4 : ∀ (t : Fin k0_t1_loop.trips), k0_chk4 (w7 t) := by decide +kernel
theorem chk5 : k0_chk5 (w11 64) := by decide +kernel
theorem chk6 : ∀ (i : grid0.Coords), k0_chk6 i (w12 64) := by decide +kernel

theorem row_lt : ∀ (i : grid0.Coords), 512 * (i 1).val + 8192 * (i 0).val + 512 ≤ 16384 := by decide +kernel

end Cert.Proof.Pack
-- ==== Proof.Next.lean ====
/-
  The words the outer loop yields at trip `t` are those of trip `t + 1`.
-/
module

public import proofs.«01_k».proof.Proof.Words

@[expose] public section

namespace Cert.Proof.Pack

open Cert.Kernel Cert.Kernel.Gen

open Idealize.ShloMosaic

/-- The task's current, previous and next block, as the kernel computes them. -/
abbrev cur (i : grid0.Coords) (x : BitVec 32) : BitVec 32 := Scalar.addi x (w4 i)
abbrev prv (i : grid0.Coords) (x : BitVec 32) : BitVec 32 :=
  Scalar.addi (Scalar.select (Scalar.cmpi .eq (Scalar.select 1#1 (Scalar.subi x 1#32) x) 4294967295#32) 63#32 (Scalar.select 1#1 (Scalar.subi x 1#32) x)) (w4 i)
abbrev nxt (i : grid0.Coords) (x : BitVec 32) : BitVec 32 :=
  Scalar.addi (Scalar.select (Scalar.cmpi .eq (Scalar.select 1#1 (Scalar.addi x 1#32) x) 64#32) 0#32 (Scalar.select 1#1 (Scalar.addi x 1#32) x)) (w4 i)
abbrev iv (t : Fin k0_t1_loop.trips) : BitVec 32 := Scf.iv 0#32 1#32 t

theorem next6 : ∀ (i : grid0.Coords) (t : Fin k0_t1_loop.trips),
    Scalar.select (Scalar.andi (Scalar.andi (Scalar.cmpi .ne (cur i (w12 t)) (nxt i (w12 t))) (Scalar.xori (Scalar.cmpi .sge (iv t) 63#32) 1#1)) 1#1) (Scalar.addi (w6 t) 1#32) (w6 t) = w6 (t.val + 1) := by decide +kernel
theorem next7 : ∀ (i : grid0.Coords) (t : Fin k0_t1_loop.trips),
    Scalar.select (Scalar.ori (Scalar.cmpi .ne (cur i (w12 t)) (nxt i (w12 t))) (Scalar.cmpi .eq (iv t) 63#32)) (Scalar.addi (w7 t) 1#32) (w7 t) = w7 (t.val + 1) := by decide +kernel
theorem next10 : ∀ (i : grid0.Coords) (t : Fin k0_t1_loop.trips),
    Scalar.select (Scalar.andi (Scalar.ori (Scalar.cmpi .ne (cur i (w12 t)) (nxt i (w12 t))) (Scalar.cmpi .eq (iv t) 63#32)) 1#1) (Scalar.addi (w7 t) 1#32) (w7 t) = w7 (t.val + 1) := by decide +kernel
theorem next11 : ∀ (i : grid0.Coords) (t : Fin k0_t1_loop.trips),
    Scalar.select (Scalar.andi (Scalar.andi (Scalar.cmpi .ne (cur i (w12 t)) (prv i (w12 t))) (Scalar.xori (Scalar.cmpi .eq (iv t) 0#32) 1#1)) 1#1) (Scalar.addi (w11 t) 1#32) (w11 t) = w11 (t.val + 1) := by decide +kernel
theorem next12 : ∀ (t : Fin k0_t1_loop.trips),
    Scalar.select (Scalar.cmpi .eq (Scalar.select 1#1 (Scalar.addi (w12 t) 1#32) (w12 t)) 64#32) 0#32 (Scalar.select 1#1 (Scalar.addi (w12 t) 1#32) (w12 t)) = w12 (t.val + 1) := by decide +kernel

end Cert.Proof.Pack
-- ==== Proof.Stream.lean ====
/-
  One block's transfer between an array in main memory and a slot of the task's own memory: what the task holds before
  it starts, while it is in flight and after its wait, and the rules of the start and the wait. The blocks of an operand
  go into a slot; the blocks of the result leave from one.
-/
module

public import proofs.«01_k».proof.Proof.Next

@[expose] public section

noncomputable section

namespace Cert.Proof.Pack

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## Blocks, slots and their semaphores -/

abbrev XRef : Type := Memref sig .scVector .hbm S2x16384x2048 .f32
abbrev BRef : Type := Memref sig .scVector .vmem S2x1x8x2048 .f32
abbrev YRef : Type := Memref sig .scVector .hbm S16384x2048 .i32
abbrev CRef : Type := Memref sig .scVector .vmem S2x8x2048 .i32

abbrev blkAt (X : XRef) (o : Fin 3 → ℕ) (h : ∀ a, o a + S1x8x2048.size a ≤ S2x16384x2048.size a) : Memref sig .scVector .hbm S1x8x2048 .f32 :=
  X.slice (Rect.unit (s := S2x16384x2048) o S1x8x2048.size h) (fun _ => rfl)
abbrev slotAt (B : BRef) (o : Fin 4 → ℕ) (h : ∀ a, o a + S1x1x8x2048.size a ≤ S2x1x8x2048.size a) : InSlot :=
  (B.slice (Rect.unit (s := S2x1x8x2048) o S1x1x8x2048.size h) (fun _ => rfl)).squeeze S1x8x2048 squeezes_S1x1x8x2048_S1x8x2048
abbrev semAt (G : DmaSems sig S2) (o : Fin 1 → ℕ) (h : ∀ a, o a + S1.size a ≤ S2.size a) : DmaSem sig :=
  ((G.slice (Rect.unit (s := S2) o S1.size h)).squeeze S_ squeezes_S1_S_).sem
abbrev oblkAt (Y : YRef) (o : Fin 2 → ℕ) (h : ∀ a, o a + S8x2048.size a ≤ S16384x2048.size a) : Memref sig .scVector .hbm S8x2048 .i32 :=
  Y.slice (Rect.unit (s := S16384x2048) o S8x2048.size h) (fun _ => rfl)
abbrev oslotAt (C : CRef) (o : Fin 3 → ℕ) (h : ∀ a, o a + S1x8x2048.size a ≤ S2x8x2048.size a) : OutSlot :=
  (C.slice (Rect.unit (s := S2x8x2048) o S1x8x2048.size h) (fun _ => rfl)).squeeze S8x2048 squeezes_S1x8x2048_S8x2048

theorem inb_blk (n : ℕ) : ∀ a, (![0, min n 16376, 0] : Fin 3 → ℕ) a + S1x8x2048.size a ≤ S2x16384x2048.size a := by
  intro a
  match a with
  | 0 => show 0 + 1 ≤ 2; omega
  | 1 => show min n 16376 + 8 ≤ 16384; omega
  | 2 => show 0 + 2048 ≤ 2048; omega
theorem inb_slot (s : ℕ) : ∀ a, (![s % 2, 0, 0, 0] : Fin 4 → ℕ) a + S1x1x8x2048.size a ≤ S2x1x8x2048.size a := by
  intro a
  match a with
  | 0 => show s % 2 + 1 ≤ 2; omega
  | 1 => show 0 + 1 ≤ 1; omega
  | 2 => show 0 + 8 ≤ 8; omega
  | 3 => show 0 + 2048 ≤ 2048; omega
theorem inb_sem (s : ℕ) : ∀ a, (![s % 2] : Fin 1 → ℕ) a + S1.size a ≤ S2.size a := by
  intro a
  match a with
  | 0 => show s % 2 + 1 ≤ 2; omega
theorem inb_oblk (n : ℕ) : ∀ a, (![min n 16376, 0] : Fin 2 → ℕ) a + S8x2048.size a ≤ S16384x2048.size a := by
  intro a
  match a with
  | 0 => show min n 16376 + 8 ≤ 16384; omega
  | 1 => show 0 + 2048 ≤ 2048; omega
theorem inb_oslot (s : ℕ) : ∀ a, (![s % 2, 0, 0] : Fin 3 → ℕ) a + S1x8x2048.size a ≤ S2x8x2048.size a := by
  intro a
  match a with
  | 0 => show s % 2 + 1 ≤ 2; omega
  | 1 => show 0 + 8 ≤ 8; omega
  | 2 => show 0 + 2048 ≤ 2048; omega

abbrev blk (X : XRef) (n : ℕ) := blkAt X ![0, min n 16376, 0] (inb_blk n)
abbrev slot (B : BRef) (s : ℕ) := slotAt B ![s % 2, 0, 0, 0] (inb_slot s)
abbrev sem (G : DmaSems sig S2) (s : ℕ) := semAt G ![s % 2] (inb_sem s)
abbrev oblk (Y : YRef) (n : ℕ) := oblkAt Y ![min n 16376, 0] (inb_oblk n)
abbrev oslot (C : CRef) (s : ℕ) := oslotAt C ![s % 2, 0, 0] (inb_oslot s)

variable (d : Dev nD) (L : grid0.Coords)

/-! ## An operand's stream -/

section In

variable (X : XRef) (B : BRef) (G : DmaSems sig S2) (q : PosShare TreeShare) (fX : Buf (Elt F) (X.view.loc (thr d L)))

/-- Slot `s` and its semaphore at rest, and a share of the operand. -/
abbrev Free (s : ℕ) : sProp 𝕄 :=
  iprop((∃ f, (slot B s).view.loc (thr d L) ↦[(slot B s).view.set]{fullShare} f) ∗ semVal (thr d L, .dma (sem G s)) 0
    ∗ (X.view.loc (thr d L) ↦[X.view.set]{q} fX))

/-- Block `n` landed in slot `s`. -/
abbrev Landed (n s : ℕ) : sProp 𝕄 :=
  iprop((∃ f, ((slot B s).view.loc (thr d L) ↦[(slot B s).view.set]{fullShare} f) ∗ ⌜(slot B s).view.read (Elt F) f = (blk X n).view.read (Elt F) fX⌝)
    ∗ semVal (thr d L, .dma (sem G s)) 0 ∗ (X.view.loc (thr d L) ↦[X.view.set]{q} fX))

/-- Block `n` on its way into slot `s`. -/
abbrev Busy (n s : ℕ) : sProp 𝕄 :=
  iprop(Transfers.Flight (countersEmb (nD := nD) (τ := τ) (sig := sig) (Ix := HIx 1) (Val := Elt F) (Name := ℕ) (U := UU) (Lvl := ℕ)) (thr d L) (.dma (sem G s)) (default : HIx 1) (slot B s).view.dmaCredit
      iprop((∃ f, ((slot B s).view.loc (thr d L) ↦[(slot B s).view.set]{fullShare} f) ∗ ⌜(slot B s).view.read (Elt F) f = (blk X n).view.read (Elt F) fX⌝)
        ∗ (X.view.loc (thr d L) ↦[(blk X n).view.set]{q} fX))
    ∗ (X.view.loc (thr d L) ↦[X.view.set \ (blk X n).view.set]{q} fX))

theorem wp_start (n s : ℕ) {oX : Fin 3 → ℕ} {oB : Fin 4 → ℕ} {oG : Fin 1 → ℕ} (eX : oX = ![0, min n 16376, 0]) (eB : oB = ![s % 2, 0, 0, 0]) (eG : oG = ![s % 2])
    (hX : ∀ a, oX a + S1x8x2048.size a ≤ S2x16384x2048.size a) (hB : ∀ a, oB a + S1x1x8x2048.size a ≤ S2x1x8x2048.size a) (hG : ∀ a, oG a + S1.size a ≤ S2.size a)
    {h1 : (blkAt X oX hX).view.WordExact} {h2 : (slotAt B oB hB).view.WordExact} {h3}
    {α : Type} {k : PUnit → Prog (TpuEff nD τ sig (Elt F) Λ₀ (thr d L).2) α} {Q : α → sProp 𝕄} :
    Free d L X B G q fX s
      ⊢ iprop((Busy d L X B G q fX n s -∗ wp frame (wpE (defs₀ (F := F)) 𝒱₀ (thr d L) none) Set.univ (k ⟨⟩) Q)
        -∗ wp frame (wpE (defs₀ (F := F)) 𝒱₀ (thr d L) none) Set.univ
          (.op (.enqueueDma (blkAt X oX hX) (.here (slotAt B oB hB)) (.dma (semAt G oG hG)) h1 h2 h3) k) Q) := by
  subst eX eB eG
  iintro ⟨⟨%f, HB⟩, Hv, HX⟩ Hk
  ihave HX' := (pointsTo_split_subset (View.set_slice_subset X.view (Rect.unit (s := S2x16384x2048) ![0, min n 16376, 0] S1x8x2048.size hX))).1 $$ HX
  icases HX' with ⟨HXb, HXr⟩
  iapply (Transfers.wp_dmaLocal countersEmb 𝒱₀ (thr d L) none (default : HIx 1) (slot B s).view.dmaCredit rfl (View.dmaCredit_pos _ (by decide)) (Finset.Subset.refl _)) $$ [HXb HB Hv]
  · isplitl [HXb]; · iexact HXb
    isplitl [HB]; · iexact HB
    iexact Hv
  iintro Hfl
  iapply Hk
  isplitr [HXr]
  · iapply (Transfers.Flight_mono countersEmb (thr d L) ?_) $$ Hfl
    iintro ⟨HB, HX⟩
    isplitr [HX]
    · iexists _
      isplitl [HB]; · iexact HB
      ipureintro
      exact View.read_write_univ _ _
    · iexact HX
  · iexact HXr

theorem wp_land (n s : ℕ) {oB : Fin 4 → ℕ} {oG : Fin 1 → ℕ} (eB : oB = ![s % 2, 0, 0, 0]) (eG : oG = ![s % 2])
    (hB : ∀ a, oB a + S1x1x8x2048.size a ≤ S2x1x8x2048.size a) (hG : ∀ a, oG a + S1.size a ≤ S2.size a)
    {srcw : Memref sig .scVector .hbm S1x8x2048 .f32}
    {h1 : srcw.view.WordExact} {h2 : (slotAt B oB hB).view.WordExact} {O : CellTallies nD τ sig (HIx 1)} {W : Waits sig (HIx 1)}
    {α : Type} {k : PUnit → Prog (TpuEff nD τ sig (Elt F) Λ₀ (thr d L).2) α} {Q : α → sProp 𝕄} :
    iprop(Busy d L X B G q fX n s ∗ Transfers.MayWaits (thr d L) (default : HIx 1) O ∗ (∃ W', ⌜∀ p ∈ W', p ∈ W ∨ p.2 = none⌝ ∗ owes (thr d L) O W'))
      ⊢ iprop((iprop(Landed d L X B G q fX n s ∗ (∃ W', ⌜∀ p ∈ W', p ∈ W ∨ p.2 = none⌝ ∗ owes (thr d L) O W'))
          -∗ wp frame (wpE (defs₀ (F := F)) 𝒱₀ (thr d L) none) Set.univ (k ⟨⟩) Q)
        -∗ wp frame (wpE (defs₀ (F := F)) 𝒱₀ (thr d L) none) Set.univ
          (.op (.waitDma2 (semAt G oG hG) srcw (slotAt B oB hB) h1 h2) k) Q) := by
  subst eB eG
  iintro ⟨⟨Hfl, HXr⟩, Hmw, %W', %hW', HO⟩ Hk
  iapply (Transfers.wp_waitLocalO countersEmb 𝒱₀ (thr d L) none (default : HIx 1) (rfl : (slot B s).view.dmaCredit = _)) $$ [Hfl HO Hmw]
  · isplitl [Hfl]; · iexact Hfl
    isplitl [HO]; · iexact HO
    iapply (Transfers.MayWaits.elim (SemLoc.dma (sem G s))) $$ Hmw
  iintro ⟨⟨HB, HXb⟩, Hv, HO⟩
  iapply Hk
  isplitr [HO]
  · isplitl [HB]; · iexact HB
    isplitl [Hv]; · iexact Hv
    iapply (pointsTo_split_subset (View.set_slice_subset X.view (Rect.unit (s := S2x16384x2048) ![0, min n 16376, 0] S1x8x2048.size (inb_blk n)))).2
    isplitl [HXb]; · iexact HXb
    iexact HXr
  · iexists _
    isplitr
    swap; · iexact HO
    ipureintro; intro p hp
    rcases Finset.mem_insert.mp hp with hp | hp; · exact .inr (hp ▸ rfl)
    exact hW' p hp

/-- A landed slot is free again. -/
theorem Landed.free (n s : ℕ) : Landed d L X B G q fX n s ⊢ Free d L X B G q fX s := by
  iintro ⟨⟨%f, HB, -⟩, Hv, HX⟩
  isplitl [HB]; · iexists f; iexact HB
  isplitl [Hv]; · iexact Hv
  iexact HX

end In

/-! ## The result's stream -/

section Out

variable (Y : YRef) (C : CRef) (G : DmaSems sig S2) (fY : Buf (Elt F) (Y.view.loc (thr d L)))

/-- Slot `s` and its semaphore at rest. -/
abbrev OFree (s : ℕ) : sProp 𝕄 :=
  iprop((∃ f, (oslot C s).view.loc (thr d L) ↦[(oslot C s).view.set]{fullShare} f) ∗ semVal (thr d L, .dma (sem G s)) 0)

/-- Slot `s` on its way into block `n`, which will hold `fY`. -/
abbrev OBusy (n s : ℕ) : sProp 𝕄 :=
  Transfers.Flight (countersEmb (nD := nD) (τ := τ) (sig := sig) (Ix := HIx 1) (Val := Elt F) (Name := ℕ) (U := UU) (Lvl := ℕ)) (thr d L) (.dma (sem G s)) (default : HIx 1) (oblk Y n).view.dmaCredit
    iprop((Y.view.loc (thr d L) ↦[(oblk Y n).view.set]{fullShare} fY) ∗ ∃ f, (oslot C s).view.loc (thr d L) ↦[(oslot C s).view.set]{fullShare} f)

theorem wp_ostart (n s : ℕ) {oY : Fin 2 → ℕ} {oC : Fin 3 → ℕ} {oG : Fin 1 → ℕ} (eY : oY = ![min n 16376, 0]) (eC : oC = ![s % 2, 0, 0]) (eG : oG = ![s % 2])
    (hY : ∀ a, oY a + S8x2048.size a ≤ S16384x2048.size a) (hC : ∀ a, oC a + S1x8x2048.size a ≤ S2x8x2048.size a) (hG : ∀ a, oG a + S1.size a ≤ S2.size a)
    {h1 : (oslotAt C oC hC).view.WordExact} {h2 : (oblkAt Y oY hY).view.WordExact} {h3}
    (f0 : Buf (Elt F) (Y.view.loc (thr d L)))
    {α : Type} {k : PUnit → Prog (TpuEff nD τ sig (Elt F) Λ₀ (thr d L).2) α} {Q : α → sProp 𝕄} :
    iprop((∃ g, ((oslot C s).view.loc (thr d L) ↦[(oslot C s).view.set]{fullShare} g) ∗ ⌜(oslot C s).view.read (Elt F) g = (oblk Y n).view.read (Elt F) fY⌝)
        ∗ semVal (thr d L, .dma (sem G s)) 0 ∗ (Y.view.loc (thr d L) ↦[(oblk Y n).view.set]{fullShare} f0))
      ⊢ iprop((OBusy d L Y C G fY n s -∗ wp frame (wpE (defs₀ (F := F)) 𝒱₀ (thr d L) none) Set.univ (k ⟨⟩) Q)
        -∗ wp frame (wpE (defs₀ (F := F)) 𝒱₀ (thr d L) none) Set.univ
          (.op (.enqueueDma (oslotAt C oC hC) (.here (oblkAt Y oY hY)) (.dma (semAt G oG hG)) h1 h2 h3) k) Q) := by
  subst eY eC eG
  iintro ⟨⟨%g, HC, %hg⟩, Hv, HY⟩ Hk
  iapply (Transfers.wp_dmaLocal countersEmb 𝒱₀ (thr d L) none (default : HIx 1) (oblk Y n).view.dmaCredit rfl (View.dmaCredit_pos _ (by decide)) (Finset.Subset.refl _)) $$ [HC HY Hv]
  · isplitl [HC]; · iexact HC
    isplitl [HY]; · iexact HY
    iexact Hv
  iintro Hfl
  iapply Hk
  iapply (Transfers.Flight_mono countersEmb (thr d L) ?_) $$ Hfl
  have e : ∀ i ∈ (oblk Y n).view.set, ((oblk Y n).view.write (Elt F) f0 ((ReadAs.same : ReadAs (Elt F) S8x2048 .i32 S8x2048 .i32).apply ((oslot C s).view.read (Elt F) g)) Finset.univ) i = fY i := by
    intro i hi
    obtain ⟨x, -, rfl⟩ := Finset.mem_map.mp hi
    refine View.eq_of_read_eq (v := (oblk Y n).view) ?_
    rw [View.read_write_univ]
    exact congrFun hg x
  iintro ⟨HY, HC⟩
  isplitl [HY]
  · iapply (Entails.of_eq (pointsTo_congr e)) $$ HY
  · iexists g; iexact HC

theorem wp_oland (n s : ℕ) {oG : Fin 1 → ℕ} (eG : oG = ![s % 2]) {oY : Fin 2 → ℕ} (hY : ∀ a, oY a + S8x2048.size a ≤ S16384x2048.size a) (hG : ∀ a, oG a + S1.size a ≤ S2.size a)
    {srcw : OutSlot}
    {h1 : srcw.view.WordExact} {h2 : (oblkAt Y oY hY).view.WordExact} {O : CellTallies nD τ sig (HIx 1)} {W : Waits sig (HIx 1)}
    {α : Type} {k : PUnit → Prog (TpuEff nD τ sig (Elt F) Λ₀ (thr d L).2) α} {Q : α → sProp 𝕄} :
    iprop(OBusy d L Y C G fY n s ∗ Transfers.MayWaits (thr d L) (default : HIx 1) O ∗ (∃ W', ⌜∀ p ∈ W', p ∈ W ∨ p.2 = none⌝ ∗ owes (thr d L) O W'))
      ⊢ iprop((iprop((Y.view.loc (thr d L) ↦[(oblk Y n).view.set]{fullShare} fY) ∗ OFree d L C G s ∗ (∃ W', ⌜∀ p ∈ W', p ∈ W ∨ p.2 = none⌝ ∗ owes (thr d L) O W'))
          -∗ wp frame (wpE (defs₀ (F := F)) 𝒱₀ (thr d L) none) Set.univ (k ⟨⟩) Q)
        -∗ wp frame (wpE (defs₀ (F := F)) 𝒱₀ (thr d L) none) Set.univ
          (.op (.waitDma2 (semAt G oG hG) srcw (oblkAt Y oY hY) h1 h2) k) Q) := by
  subst eG
  iintro ⟨Hfl, Hmw, %W', %hW', HO⟩ Hk
  iapply (Transfers.wp_waitLocalO countersEmb 𝒱₀ (thr d L) none (default : HIx 1) (rfl : (oblkAt Y oY hY).view.dmaCredit = (oblk Y n).view.dmaCredit)) $$ [Hfl HO Hmw]
  · isplitl [Hfl]; · iexact Hfl
    isplitl [HO]; · iexact HO
    iapply (Transfers.MayWaits.elim (SemLoc.dma (sem G s))) $$ Hmw
  iintro ⟨⟨HY, HC⟩, Hv, HO⟩
  iapply Hk
  isplitl [HY]; · iexact HY
  isplitr [HO]
  · isplitl [HC]; · iexact HC
    iexact Hv
  · iexists _
    isplitr
    swap; · iexact HO
    ipureintro; intro p hp
    rcases Finset.mem_insert.mp hp with hp | hp; · exact .inr (hp ▸ rfl)
    exact hW' p hp

end Out

end Cert.Proof.Pack

end
-- ==== Proof.Trip.lean ====
/-
  One trip of the outer loop: the next block of either operand is started, this trip's block of either is waited for,
  the two are packed into the result's current slot, that slot is started on its way out, and the previous one waited for.
-/
module

public import proofs.«01_k».proof.Proof.Stream

@[expose] public section

noncomputable section

namespace Cert.Proof.Pack

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (d : Dev nD) (L : grid0.Coords)

/-! ## What an operand's stream holds at trip `t` -/

/-- The share of an operand that slot `s` reads with. -/
abbrev qs (q : PosShare TreeShare) (s : ℕ) : PosShare TreeShare := if s % 2 = 0 then q.left else q.right

section In

variable (X : XRef) (B : BRef) (G : DmaSems sig S2) (q : PosShare TreeShare) (fX : Buf (Elt F) (X.view.loc (thr d L)))

/-- Slot `t % 2`: block `t` on its way in, or, past the last, at rest. -/
abbrev HD (t : ℕ) : sProp 𝕄 := if t < 64 then Busy d L X B G (qs q t) fX (row L t) t else Free d L X B G (qs q t) fX t

theorem Free_mod (a b : ℕ) (h : a % 2 = b % 2) : Free d L X B G (qs q a) fX a = Free d L X B G (qs q b) fX b := by
  unfold Free qs slot sem
  have hB : ∀ (o o' : Fin 4 → ℕ) (_ : o = o') h h', slotAt B o h = slotAt B o' h' := by intro o o' e h h'; subst e; rfl
  have hG : ∀ (o o' : Fin 1 → ℕ) (_ : o = o') h h', semAt G o h = semAt G o' h' := by intro o o' e h h'; subst e; rfl
  rw [hB ![a % 2, 0, 0, 0] ![b % 2, 0, 0, 0] (by rw [h]) (inb_slot a) (inb_slot b), hG ![a % 2] ![b % 2] (by rw [h]) (inb_sem a) (inb_sem b), h]

theorem Free_two (s : ℕ) : Free d L X B G (qs q (s + 2)) fX (s + 2) = Free d L X B G (qs q s) fX s :=
  Free_mod d L X B G q fX _ _ (by omega)

/-- The conditional start of the next block. -/
theorem wp_start_if (t : ℕ) {c : Prop} [Decidable c] (hc : c ↔ t < 63) {oX : Fin 3 → ℕ} {oB : Fin 4 → ℕ} {oG : Fin 1 → ℕ}
    (eX : t < 63 → oX = ![0, row L (t + 1), 0]) (eB : oB = ![(t + 1) % 2, 0, 0, 0]) (eG : oG = ![(t + 1) % 2])
    (hX : c → ∀ a, oX a + S1x8x2048.size a ≤ S2x16384x2048.size a) (hB : c → ∀ a, oB a + S1x1x8x2048.size a ≤ S2x1x8x2048.size a) (hG : c → ∀ a, oG a + S1.size a ≤ S2.size a)
    {h1 : ∀ h : c, (blkAt X oX (hX h)).view.WordExact} {h2 : ∀ h : c, (slotAt B oB (hB h)).view.WordExact}
    {h3 : ∀ h : c, (DmaTarget.here (slotAt B oB (hB h)) : DmaTarget nD τ sig (thr d L).2 .vmem S1x8x2048 .f32).Typed .hbm (.dma (semAt G oG (hG h)))} {β : Type} {R : Prog (TpuEff nD τ sig (Elt F) Λ₀ (thr d L).2) β}
    {α : Type} {k : β → Prog (TpuEff nD τ sig (Elt F) Λ₀ (thr d L).2) α} {Q : α → sProp 𝕄} :
    Free d L X B G (qs q (t + 1)) fX (t + 1)
      ⊢ iprop((HD d L X B G q fX (t + 1) -∗ wp frame (wpE (defs₀ (F := F)) 𝒱₀ (thr d L) none) Set.univ (R >>= k) Q)
        -∗ wp frame (wpE (defs₀ (F := F)) 𝒱₀ (thr d L) none) Set.univ
          ((if h : c then .op (.enqueueDma (blkAt X oX (hX h)) (.here (slotAt B oB (hB h))) (.dma (semAt G oG (hG h))) (h1 h) (h2 h) (h3 h)) (fun _ => R) else R) >>= k) Q) := by
  by_cases h : c
  · have ht := hc.1 h
    rw [dif_pos h]
    unfold HD
    rw [if_pos (show t + 1 < 64 by omega)]
    have hr : row L (t + 1) ≤ 16376 := by have := row_lt L; unfold row; omega
    simp only [Prog.bind_op]
    exact wp_start (k := fun _ => R >>= k) (Q := Q) d L X B G (qs q (t + 1)) fX (row L (t + 1)) (t + 1) ((eX ht).trans (by rw [Nat.min_eq_left hr])) eB eG _ _ _
  · have ht : ¬ t + 1 < 64 := fun h' => h (hc.2 (by omega))
    rw [dif_neg h]
    unfold HD
    rw [if_neg ht]
    iintro HF Hk
    iapply Hk
    iexact HF

/-- The wait of this trip's block. -/
theorem wp_land_if (t : ℕ) (ht : t < 64) {c : Prop} [Decidable c] (hc : c) {oB : Fin 4 → ℕ} {oG : Fin 1 → ℕ} (eB : oB = ![t % 2, 0, 0, 0]) (eG : oG = ![t % 2])
    (hB : c → ∀ a, oB a + S1x1x8x2048.size a ≤ S2x1x8x2048.size a) (hG : c → ∀ a, oG a + S1.size a ≤ S2.size a)
    {srcw : c → Memref sig .scVector .hbm S1x8x2048 .f32} {h1 : ∀ h : c, (srcw h).view.WordExact} {h2 : ∀ h : c, (slotAt B oB (hB h)).view.WordExact} {O : CellTallies nD τ sig (HIx 1)} {W : Waits sig (HIx 1)}
    {β : Type} {R : Prog (TpuEff nD τ sig (Elt F) Λ₀ (thr d L).2) β}
    {α : Type} {k : β → Prog (TpuEff nD τ sig (Elt F) Λ₀ (thr d L).2) α} {Q : α → sProp 𝕄} :
    iprop(HD d L X B G q fX t ∗ Transfers.MayWaits (thr d L) (default : HIx 1) O ∗ (∃ W', ⌜∀ p ∈ W', p ∈ W ∨ p.2 = none⌝ ∗ owes (thr d L) O W'))
      ⊢ iprop((iprop(Landed d L X B G (qs q t) fX (row L t) t ∗ (∃ W', ⌜∀ p ∈ W', p ∈ W ∨ p.2 = none⌝ ∗ owes (thr d L) O W'))
          -∗ wp frame (wpE (defs₀ (F := F)) 𝒱₀ (thr d L) none) Set.univ (R >>= k) Q)
        -∗ wp frame (wpE (defs₀ (F := F)) 𝒱₀ (thr d L) none) Set.univ
          ((if h : c then .op (.waitDma2 (semAt G oG (hG h)) (srcw h) (slotAt B oB (hB h)) (h1 h) (h2 h)) (fun _ => R) else R) >>= k) Q) := by
  rw [dif_pos hc]
  unfold HD
  rw [if_pos ht]
  simp only [Prog.bind_op]
  exact wp_land (k := fun _ => R >>= k) (Q := Q) d L X B G (qs q t) fX (row L t) t eB eG _ _

end In

/-! ## What the result's stream holds at trip `t` -/

section Out

variable (Y : YRef) (C : CRef) (G : DmaSems sig S2) (fY : Buf (Elt F) (Y.view.loc (thr d L)))

/-- Slot `(t + 1) % 2`: the previous block on its way out, or, at the first trip, at rest. -/
abbrev OHD (t : ℕ) : sProp 𝕄 := if t = 0 then OFree d L C G (t + 1) else OBusy d L Y C G fY (row L (t - 1)) (t + 1)

theorem OFree_mod (a b : ℕ) (h : a % 2 = b % 2) : OFree d L C G a = (OFree d L C G b : sProp 𝕄) := by
  unfold OFree oslot sem
  have hC : ∀ (o o' : Fin 3 → ℕ) (_ : o = o') h h', oslotAt C o h = oslotAt C o' h' := by intro o o' e h h'; subst e; rfl
  have hG : ∀ (o o' : Fin 1 → ℕ) (_ : o = o') h h', semAt G o h = semAt G o' h' := by intro o o' e h h'; subst e; rfl
  rw [hC ![a % 2, 0, 0] ![b % 2, 0, 0] (by rw [h]) (inb_oslot a) (inb_oslot b), hG ![a % 2] ![b % 2] (by rw [h]) (inb_sem a) (inb_sem b)]

theorem OBusy_two (n s : ℕ) : OBusy d L Y C G fY n (s + 2) = OBusy d L Y C G fY n s := by
  have e : (s + 2) % 2 = s % 2 := by omega
  have key : ∀ (a b : ℕ) (_ : a % 2 = b % 2), OBusy d L Y C G fY n a = OBusy d L Y C G fY n b := by
    intro a b h
    unfold OBusy oslot sem
    have hC : ∀ (o o' : Fin 3 → ℕ) (_ : o = o') h h', oslotAt C o h = oslotAt C o' h' := by intro o o' e h h'; subst e; rfl
    have hG : ∀ (o o' : Fin 1 → ℕ) (_ : o = o') h h', semAt G o h = semAt G o' h' := by intro o o' e h h'; subst e; rfl
    rw [hC ![a % 2, 0, 0] ![b % 2, 0, 0] (by rw [h]) (inb_oslot a) (inb_oslot b), hG ![a % 2] ![b % 2] (by rw [h]) (inb_sem a) (inb_sem b)]
  exact key _ _ e

/-- The rows of block `n`, held at `fY`. -/
abbrev OB (n : ℕ) : sProp 𝕄 := (Y.view.loc (thr d L) ↦[(oblk Y n).view.set]{fullShare} fY)

/-- The wait of the previous block: its rows, held at `fY`, and its slot at rest. -/
theorem wp_oland_if (t : ℕ) {c : Prop} [Decidable c] (hc : c ↔ t ≠ 0) {oG : Fin 1 → ℕ} (eG : t ≠ 0 → oG = ![(t + 1) % 2]) {oY : Fin 2 → ℕ}
    (hY : c → ∀ a, oY a + S8x2048.size a ≤ S16384x2048.size a) (hG : c → ∀ a, oG a + S1.size a ≤ S2.size a)
    {srcw : c → OutSlot} {h1 : ∀ h : c, (srcw h).view.WordExact} {h2 : ∀ h : c, (oblkAt Y oY (hY h)).view.WordExact} {O : CellTallies nD τ sig (HIx 1)} {W : Waits sig (HIx 1)}
    {β : Type} {R : Prog (TpuEff nD τ sig (Elt F) Λ₀ (thr d L).2) β}
    {α : Type} {k : β → Prog (TpuEff nD τ sig (Elt F) Λ₀ (thr d L).2) α} {Q : α → sProp 𝕄} :
    iprop(OHD d L Y C G fY t ∗ Transfers.MayWaits (thr d L) (default : HIx 1) O ∗ (∃ W', ⌜∀ p ∈ W', p ∈ W ∨ p.2 = none⌝ ∗ owes (thr d L) O W'))
      ⊢ iprop((iprop((if t = 0 then iprop(emp) else OB d L Y fY (row L (t - 1))) ∗ OFree d L C G (t + 1) ∗ (∃ W', ⌜∀ p ∈ W', p ∈ W ∨ p.2 = none⌝ ∗ owes (thr d L) O W'))
          -∗ wp frame (wpE (defs₀ (F := F)) 𝒱₀ (thr d L) none) Set.univ (R >>= k) Q)
        -∗ wp frame (wpE (defs₀ (F := F)) 𝒱₀ (thr d L) none) Set.univ
          ((if h : c then .op (.waitDma2 (semAt G oG (hG h)) (srcw h) (oblkAt Y oY (hY h)) (h1 h) (h2 h)) (fun _ => R) else R) >>= k) Q) := by
  by_cases h : c
  · have ht := hc.1 h
    rw [dif_pos h, if_neg ht]
    unfold OHD
    rw [if_neg ht]
    simp only [Prog.bind_op]
    exact wp_oland (k := fun _ => R >>= k) (Q := Q) d L Y C G fY (row L (t - 1)) (t + 1) (eG ht) _ _
  · have ht : t = 0 := by by_contra h'; exact h (hc.2 h')
    rw [dif_neg h, if_pos ht]
    unfold OHD
    rw [if_pos ht]
    iintro ⟨HF, -, HO⟩ Hk
    iapply Hk
    isplitr; · iempintro
    isplitl [HF]; · iexact HF
    iexact HO

end Out

end Cert.Proof.Pack

end
-- ==== Proof.Step.lean ====
/-
  The outer loop's invariant, and one trip of it.
-/
module

public import proofs.«01_k».proof.Proof.Trip

@[expose] public section

noncomputable section

namespace Cert.Proof.Pack

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (m : (ℓ : Loc nD τ sig) → Buf (Elt F) ℓ)
variable (d : Dev nD) (L : grid0.Coords)

/-! ## The rows of a block -/

theorem row_le (t : ℕ) (ht : t < 64) : row L t ≤ 16376 := by have := row_lt L; unfold row; omega

theorem set_oblk (n : ℕ) (hn : n ≤ 16376) : (oblk oV n).view.set = RS n (n + 8) := by
  have e : (oblk oV n).view.set = (Rect.unit (s := S16384x2048) ![min n 16376, 0] S8x2048.size (inb_oblk n)).set :=
    View.set_slice_whole _ _
  rw [e]
  ext x
  rw [Rect.mem_set_unit, mem_RS]
  have h1 : (x 1).val < 2048 := (x 1).isLt
  constructor
  · intro h
    have h0 : min n 16376 ≤ (x 0).val ∧ (x 0).val < min n 16376 + 8 := h 0
    omega
  · intro h a
    match a with
    | 0 => exact (show min n 16376 ≤ (x 0).val ∧ (x 0).val < min n 16376 + 8 by omega)
    | 1 => exact (show 0 ≤ (x 1).val ∧ (x 1).val < 0 + 2048 by omega)

/-- The packed words of block `n` of the operands are block `n` of the packed table. -/
theorem read_out (n : ℕ) (A C : InSlot) (Q : OutSlot) (a : Buf (Elt F) (A.view.loc (thr d L))) (b : Buf (Elt F) (C.view.loc (thr d L))) (g : Buf (Elt F) (Q.view.loc (thr d L)))
    (ha : A.view.read (Elt F) a = (blk uV n).view.read (Elt F) (m (uLoc d))) (hb : C.view.read (Elt F) b = (blk vV n).view.read (Elt F) (m (vLoc d)))
    (hg : Done d L A C Q a b g 8 0) : Q.view.read (Elt F) g = (oblk oV n).view.read (Elt F) (OUT m d) := by
  funext x
  have h0 : (x 0).val < 8 := (x 0).isLt
  rw [hg x (.inl h0)]
  unfold TT
  rw [ha, hb]
  have e : (Rect.unit (s := S2x16384x2048) ![0, min n 16376, 0] S1x8x2048.size (inb_blk n)).emb (up x)
      = ix0 ((Rect.unit (s := S16384x2048) ![min n 16376, 0] S8x2048.size (inb_oblk n)).emb x) :=
    Shape.idx3_ext rfl rfl rfl
  show PK (m (uLoc d) ((Rect.unit (s := S2x16384x2048) ![0, min n 16376, 0] S1x8x2048.size (inb_blk n)).emb (up x))) (m (vLoc d) ((Rect.unit (s := S2x16384x2048) ![0, min n 16376, 0] S1x8x2048.size (inb_blk n)).emb (up x)))
    = PK (m (uLoc d) (ix0 ((Rect.unit (s := S16384x2048) ![min n 16376, 0] S8x2048.size (inb_oblk n)).emb x))) (m (vLoc d) (ix0 ((Rect.unit (s := S16384x2048) ![min n 16376, 0] S8x2048.size (inb_oblk n)).emb x)))
  rw [e]

/-! ## The invariant -/

variable (qu qv : PosShare TreeShare) (O : CellTallies nD τ sig (HIx 1)) (W : Waits sig (HIx 1))

/-- The rows before the previous block, packed. -/
abbrev ODone (t : ℕ) : sProp 𝕄 := (oLoc d ↦[RS (row L 0) (row L (t - 1))]{fullShare} OUT m d)
/-- The rows from block `t` on, as at launch. -/
abbrev OTodo (t : ℕ) : sProp 𝕄 := (oLoc d ↦[RS (row L t) (row L 64)]{fullShare} m (oLoc d))

abbrev Words : Type := BitVec 32 × BitVec 32 × BitVec 32 × BitVec 32 × BitVec 32 × BitVec 32 × BitVec 32
def words (t : ℕ) : Words := (w6 t, w7 t, w6 t, w7 t, w7 t, w11 t, w12 t)

abbrev OW : sProp 𝕄 := iprop(∃ W', ⌜∀ p ∈ W', p ∈ W ∨ p.2 = none⌝ ∗ owes (thr d L) O W')

abbrev Inv (t : ℕ) (acc : Words) : sProp 𝕄 :=
  iprop(⌜acc = words t⌝
    ∗ HD d L uV suV cc0_scoped1 qu (m (uLoc d)) t ∗ Free d L uV suV cc0_scoped1 (qs qu (t + 1)) (m (uLoc d)) (t + 1)
    ∗ HD d L vV svV cc0_scoped3 qv (m (vLoc d)) t ∗ Free d L vV svV cc0_scoped3 (qs qv (t + 1)) (m (vLoc d)) (t + 1)
    ∗ OHD d L oV soV cc0_scoped5 (OUT m d) t ∗ OFree d L soV cc0_scoped5 t
    ∗ ODone m d L t ∗ OTodo m d L t
    ∗ Transfers.MayWaits (thr d L) (default : HIx 1) O ∗ OW d L O W)

theorem todo_split (t : ℕ) (ht : t < 64) :
    OTodo m d L t ⊢ iprop((oV.view.loc (thr d L) ↦[(oblk oV (row L t)).view.set]{fullShare} m (oLoc d)) ∗ OTodo m d L (t + 1)) := by
  have hsub : RS (row L t) (row L t + 8) ⊆ RS (row L t) (row L 64) := RS_subset le_rfl (by unfold row; omega)
  have e : RS (row L t) (row L 64) \ RS (row L t) (row L t + 8) = RS (row L (t + 1)) (row L 64) := by
    rw [RS_sdiff_left (by omega) (by unfold row; omega)]
    congr 1
    unfold row; omega
  rw [set_oblk _ (row_le L t ht)]
  unfold OTodo
  rw [← e]
  exact (pointsTo_split_subset hsub).1

theorem done_join (t : ℕ) (ht : t ≤ 64) :
    iprop(ODone m d L t ∗ (if t = 0 then iprop(emp) else OB d L oV (OUT m d) (row L (t - 1)))) ⊢ ODone m d L (t + 1) := by
  by_cases h : t = 0
  · subst h
    rw [if_pos rfl]
    iintro ⟨H, -⟩
    iexact H
  · rw [if_neg h]
    have e1 : row L (t - 1) + 8 = row L t := by unfold row; omega
    have e : RS (row L 0) (row L t) \ RS (row L 0) (row L (t - 1)) = RS (row L (t - 1)) (row L (t - 1) + 8) := by
      rw [e1]
      exact RS_sdiff_left (by unfold row; omega) (by unfold row; omega)
    have hsub : RS (row L 0) (row L (t - 1)) ⊆ RS (row L 0) (row L t) := RS_subset le_rfl (by unfold row; omega)
    unfold OB
    rw [set_oblk _ (row_le L (t - 1) (by omega)), ← e]
    exact (pointsTo_split_subset hsub).2

theorem words_ext {a b c e f g h : BitVec 32} {t : ℕ} (ha : a = w6 t) (hb : b = w7 t) (hc : c = w6 t) (he : e = w7 t) (hf : f = w7 t) (hg : g = w11 t) (hh : h = w12 t) :
    ((a, b, c, e, f, g, h) : Words) = words t := by
  subst ha hb hc he hf hg hh; rfl

theorem Free_next (X : XRef) (B : BRef) (G : DmaSems sig S2) (q : PosShare TreeShare) (fX : Buf (Elt F) (X.view.loc (thr d L))) (t : ℕ) :
    Free d L X B G (qs q t) fX t ⊢ Free d L X B G (qs q (t + 1 + 1)) fX (t + 1 + 1) := by
  rw [show t + 1 + 1 = t + 2 from rfl, Free_two]

theorem OHD_next (Y : YRef) (C : CRef) (G : DmaSems sig S2) (fY : Buf (Elt F) (Y.view.loc (thr d L))) (t : ℕ) :
    OBusy d L Y C G fY (row L t) t ⊢ OHD d L Y C G fY (t + 1) := by
  unfold OHD
  rw [if_neg (Nat.succ_ne_zero t), show t + 1 + 1 = t + 2 from rfl, OBusy_two]; exact .rfl

theorem slot_congr (B : BRef) {o : Fin 4 → ℕ} (s : ℕ) (e : o = ![s % 2, 0, 0, 0]) (h) : slotAt B o h = slot B s := by subst e; rfl
theorem oslot_congr (C : CRef) {o : Fin 3 → ℕ} (s : ℕ) (e : o = ![s % 2, 0, 0]) (h) : oslotAt C o h = oslot C s := by subst e; rfl

section Rows
variable (arg2 : Memref sig .scVector .hbm S2x16384x2048 .f32) (harg2 : arg2.IsWhole) (arg3 : Memref sig .scVector .hbm S2x16384x2048 .f32) (harg3 : arg3.IsWhole) (arg4 : Memref sig .scVector .hbm S16384x2048 .i32) (harg4 : arg4.IsWhole)
  (alloca : Memref sig .scVector .vmem S2x1x8x2048 .f32) (halloca : alloca.IsWhole) (v5 : DmaSems sig S2) (alloca_0 : Memref sig .scVector .vmem S2x1x8x2048 .f32) (halloca_0 : alloca_0.IsWhole) (v6 : DmaSems sig S2) (alloca_1 : Memref sig .scVector .vmem S2x8x2048 .i32) (halloca_1 : alloca_1.IsWhole) (v7 : DmaSems sig S2)
  (k0_t1 : Fin k0_t1_loop.trips) (arg6 arg7 arg8 arg9 arg10 arg11 arg12 : BitVec 32) (k0_hw4 : k0_chk4 arg10) (k0_hw3 : k0_chk3 arg9) (k0_hw2 : k0_chk2 arg7) (k0_hw1 : k0_chk1 L k0_t1 arg6 arg7 arg8 arg9 arg10 arg11 arg12)
  (arg5 : BitVec 32) (v76 v77 : BitVec 1) (v78 v83 v88 : BitVec 32) (v107 : BitVec 1)

/-- The two inner loops, over slots named otherwise. -/
theorem wp_rows_at (A C : InSlot) (Qo : OutSlot) (eA : inSlot alloca arg7 k0_hw2.1 = A) (eC : inSlot alloca_0 arg9 k0_hw3.1 = C) (eQ : outSlot alloca_1 arg10 k0_hw4 = Qo)
    {α : Type} {kk : Unit → Prog (TpuEff nD τ sig (Elt F) Λ₀ (thr d L).2) α} {Q : α → sProp 𝕄}
    (a : Buf (Elt F) (A.view.loc (thr d L))) (b : Buf (Elt F) (C.view.loc (thr d L))) :
    Slots d L A C Qo a b 0 0
      ⊢ iprop((Slots d L A C Qo a b 8 0 -∗ wp frame (wpE (defs₀ (F := F)) 𝒱₀ (thr d L) none) Set.univ (kk ()) Q)
        -∗ wp frame (wpE (defs₀ (F := F)) 𝒱₀ (thr d L) none) Set.univ
          (Scf.Loop.for k0_t2_loop k0_t2_ok ⟨⟩ (k0_t2_body (F := F) L arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107) >>= kk) Q) := by
  subst eA eC eQ
  exact wp_rows d L arg2 harg2 arg3 harg3 arg4 harg4 alloca halloca v5 alloca_0 halloca_0 v6 alloca_1 halloca_1 v7 k0_t1 arg6 arg7 arg8 arg9 arg10 arg11 arg12 k0_hw4 k0_hw3 k0_hw2 k0_hw1 arg5 v76 v77 v78 v83 v88 v107 a b
end Rows

/-- The kernel's outer loop's body, over its own buffers. -/
abbrev body1 (v8 : BitVec 32) := k0_t1_body (F := F) L uV (Memref.isWhole_whole _) vV (Memref.isWhole_whole _) oV (Memref.isWhole_whole _) suV (Memref.isWhole_whole _) cc0_scoped1 svV (Memref.isWhole_whole _) cc0_scoped3 soV (Memref.isWhole_whole _) cc0_scoped5 (w4 L) v8

set_option maxHeartbeats 4000000 in
theorem wp_trip (v8 : BitVec 32) (t : Fin k0_t1_loop.trips) (acc : Words) :
    Inv m d L qu qv O W t.val acc ⊢ wp frame (wpE (defs₀ (F := F)) 𝒱₀ (thr d L) none) Set.univ (body1 (F := F) L v8 t acc) fun acc' => Inv m d L qu qv O W (t.val + 1) acc' := by
  iintro ⟨%hacc, HUh, HUn, HVh, HVn, HOh, HOn, Hdone, Htodo, #Hmw, HO⟩
  subst hacc
  have ht : t.val < 64 := lt_of_lt_of_eq t.isLt trips_t1
  simp only [body1, words, k0_t1_body, k0_part7_eq_skeleton, k0_part7_skel, k0_part8_eq_skeleton, k0_part8_skel, k0_part9_eq_skeleton, k0_part9_skel,
    Prog.lift, Prog.bind_op, Prog.bind_ret, Prog.pure_eq_ret, Prog.bind_assoc, ite_self]
  iapply (wp_assume 𝒱₀ (thr d L) none Set.univ (chk4 t))
  iapply (wp_assume 𝒱₀ (thr d L) none Set.univ (chk3 t))
  iapply (wp_assume 𝒱₀ (thr d L) none Set.univ (chk2 t))
  iapply (wp_assume 𝒱₀ (thr d L) none Set.univ (chk1 L t))
  iapply (wp_start_if d L uV suV cc0_scoped1 qu (m (uLoc d)) t.val (cond1_iff L t) (off5_eq L t) (off4_eq t) (off6_eq t) _ _ _) $$ HUn
  iintro HUn
  simp only [Prog.bind_op, Prog.bind_ret, Prog.bind_assoc]
  iapply (wp_start_if d L vV svV cc0_scoped3 qv (m (vLoc d)) t.val (cond2_iff L t) (off8_eq L t) (off4_eq t) (off6_eq t) _ _ _) $$ HVn
  iintro HVn
  simp only [Prog.bind_op, Prog.bind_ret, Prog.bind_assoc]
  iapply (wp_land_if d L uV suV cc0_scoped1 qu (m (uLoc d)) t.val ht (cond3_eq L t) (off16_eq t) (off12_eq t) _ _) $$ [HUh HO]
  · isplitl [HUh]; · iexact HUh
    isplitr; · iexact Hmw
    iexact HO
  iintro ⟨HUh, HO⟩
  simp only [Prog.bind_op, Prog.bind_ret, Prog.bind_assoc]
  iapply (wp_land_if d L vV svV cc0_scoped3 qv (m (vLoc d)) t.val ht (cond4_eq L t) (off16_eq t) (off12_eq t) _ _) $$ [HVh HO]
  · isplitl [HVh]; · iexact HVh
    isplitr; · iexact Hmw
    iexact HO
  iintro ⟨HVh, HO⟩
  simp only [Prog.bind_op, Prog.bind_ret, Prog.bind_assoc]
  icases HUh with ⟨⟨%fu, HUb, %hu⟩, HUs, HUx⟩
  icases HVh with ⟨⟨%fv, HVb, %hv⟩, HVs, HVx⟩
  icases HOn with ⟨⟨%fo, HOb⟩, HOs⟩
  iapply (wp_rows_at d L _ _ _ _ _ _ _ _ _ _ _ _ _ _ _ _ _ _ _ _ _ _ _ _ _ _ _ _ _ _ _ _ _ _ (slot suV t.val) (slot svV t.val) (oslot soV t.val)
    (slot_congr suV t.val (off16_eq t) _) (slot_congr svV t.val (off16_eq t) _) (oslot_congr soV t.val (off19_eq t) _) fu fv) $$ [HUb HVb HOb]
  · isplitl [HUb]; · iexact HUb
    isplitl [HVb]; · iexact HVb
    iexists fo
    isplitl [HOb]; · iexact HOb
    ipureintro
    intro x hx
    omega
  iintro ⟨HUb, HVb, %g, HOb, %hd⟩
  have hg := read_out m d L (row L t.val) _ _ _ fu fv g hu hv hd
  rw [dif_pos (cond8_eq L t)]
  simp only [Prog.bind_op, Prog.bind_ret]
  ihave Htodo := (todo_split m d L t.val ht) $$ Htodo
  icases Htodo with ⟨Hblk, Htodo⟩
  iapply (wp_ostart d L oV soV cc0_scoped5 (OUT m d) (row L t.val) t.val ((off25_eq L t).trans (by rw [Nat.min_eq_left (row_le L t.val ht)])) (off19_eq t) (off12_eq t) _ _ _ (m (oLoc d))) $$ [HOb HOs Hblk]
  · isplitl [HOb]
    · iexists g
      isplitl [HOb]; · iexact HOb
      ipureintro; exact hg
    isplitl [HOs]; · iexact HOs
    iexact Hblk
  iintro HOn
  simp only [Prog.bind_op, Prog.bind_ret, Prog.bind_assoc]
  iapply (wp_oland_if d L oV soV cc0_scoped5 (OUT m d) t.val (cond11_iff L t) (off29_eq t) _ _) $$ [HOh HO]
  · isplitl [HOh]; · iexact HOh
    isplitr; · iexact Hmw
    iexact HO
  iintro ⟨Hprev, HOf, HO⟩
  simp only [Prog.bind_op, Prog.bind_ret, Prog.bind_assoc]
  rw [wp_ret]
  imodintro
  isplitr
  · ipureintro
    exact words_ext (next6 L t) (next7 L t) (next6 L t) (next7 L t) (next10 L t) (next11 L t) (next12 t)
  isplitl [HUn]; · iexact HUn
  isplitl [HUb HUs HUx]
  · iapply (Free_next d L uV suV cc0_scoped1 qu (m (uLoc d)) t.val)
    isplitl [HUb]; · iexists fu; iexact HUb
    isplitl [HUs]; · iexact HUs
    iexact HUx
  isplitl [HVn]; · iexact HVn
  isplitl [HVb HVs HVx]
  · iapply (Free_next d L vV svV cc0_scoped3 qv (m (vLoc d)) t.val)
    isplitl [HVb]; · iexists fv; iexact HVb
    isplitl [HVs]; · iexact HVs
    iexact HVx
  isplitl [HOn]
  · iapply (OHD_next d L oV soV cc0_scoped5 (OUT m d) t.val) $$ HOn
  isplitl [HOf]; · iexact HOf
  isplitl [Hdone Hprev]
  · iapply (done_join m d L t.val ht.le)
    isplitl [Hdone]; · iexact Hdone
    iexact Hprev
  isplitl [Htodo]; · iexact Htodo
  isplitr; · iexact Hmw
  iexact HO

end Cert.Proof.Pack

end
-- ==== Proof.Tile.lean ====
/-
  One task: the first block of either operand is started, the outer loop runs, and the last block is waited for.
-/
module

public import proofs.«01_k».proof.Proof.Step

@[expose] public section

noncomputable section

namespace Cert.Proof.Pack

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (m : (ℓ : Loc nD τ sig) → Buf (Elt F) ℓ)
variable (d : Dev nD) (L : grid0.Coords)

/-! ## The task's semaphores and buffers -/

abbrev sm (G : DmaSems sig S2) (s : ℕ) : SemLoc sig := SemLoc.dma (sem G s)
abbrev cl (x : SemLoc sig) : GSem nD τ sig := (thr d L, x)

theorem mem_cl (G : DmaSems sig S2) (s : ℕ) (h : (sm G s).isScoped .scVector = true) : cl d L (sm G s) ∈ ownCells (thr d L) := mem_ownCells.mpr ⟨rfl, h⟩
theorem ne_cl (G : DmaSems sig S2) (s : ℕ) (G' : DmaSems sig S2) (s' : ℕ) (h : sm G s ≠ sm G' s') : cl d L (sm G s) ≠ cl d L (sm G' s') :=
  fun e => h (congrArg Prod.snd e)

theorem ownSems0_V : (ownSems0 (thr d L) : sProp 𝕄)
    = iprop(semVal (cl d L (sm cc0_scoped1 0)) 0 ∗ semVal (cl d L (sm cc0_scoped1 1)) 0 ∗ semVal (cl d L (sm cc0_scoped3 0)) 0 ∗ semVal (cl d L (sm cc0_scoped3 1)) 0 ∗ semVal (cl d L (sm cc0_scoped5 0)) 0 ∗ semVal (cl d L (sm cc0_scoped5 1)) 0 ∗ bigSep (((((((ownCells (thr d L)).erase (cl d L (sm cc0_scoped1 0))).erase (cl d L (sm cc0_scoped1 1))).erase (cl d L (sm cc0_scoped3 0))).erase (cl d L (sm cc0_scoped3 1))).erase (cl d L (sm cc0_scoped5 0))).erase (cl d L (sm cc0_scoped5 1))) fun g => semVal g 0) := by
  unfold SparseCore.Cfg.ownSems0
  rw [SparseCore.bigSep_erase' (mem_cl d L cc0_scoped1 0 (by decide)),
    SparseCore.bigSep_erase' (Finset.mem_erase.mpr ⟨ne_cl d L cc0_scoped1 1 cc0_scoped1 0 (by decide), (mem_cl d L cc0_scoped1 1 (by decide))⟩),
    SparseCore.bigSep_erase' (Finset.mem_erase.mpr ⟨ne_cl d L cc0_scoped3 0 cc0_scoped1 1 (by decide), (Finset.mem_erase.mpr ⟨ne_cl d L cc0_scoped3 0 cc0_scoped1 0 (by decide), (mem_cl d L cc0_scoped3 0 (by decide))⟩)⟩),
    SparseCore.bigSep_erase' (Finset.mem_erase.mpr ⟨ne_cl d L cc0_scoped3 1 cc0_scoped3 0 (by decide), (Finset.mem_erase.mpr ⟨ne_cl d L cc0_scoped3 1 cc0_scoped1 1 (by decide), (Finset.mem_erase.mpr ⟨ne_cl d L cc0_scoped3 1 cc0_scoped1 0 (by decide), (mem_cl d L cc0_scoped3 1 (by decide))⟩)⟩)⟩),
    SparseCore.bigSep_erase' (Finset.mem_erase.mpr ⟨ne_cl d L cc0_scoped5 0 cc0_scoped3 1 (by decide), (Finset.mem_erase.mpr ⟨ne_cl d L cc0_scoped5 0 cc0_scoped3 0 (by decide), (Finset.mem_erase.mpr ⟨ne_cl d L cc0_scoped5 0 cc0_scoped1 1 (by decide), (Finset.mem_erase.mpr ⟨ne_cl d L cc0_scoped5 0 cc0_scoped1 0 (by decide), (mem_cl d L cc0_scoped5 0 (by decide))⟩)⟩)⟩)⟩),
    SparseCore.bigSep_erase' (Finset.mem_erase.mpr ⟨ne_cl d L cc0_scoped5 1 cc0_scoped5 0 (by decide), (Finset.mem_erase.mpr ⟨ne_cl d L cc0_scoped5 1 cc0_scoped3 1 (by decide), (Finset.mem_erase.mpr ⟨ne_cl d L cc0_scoped5 1 cc0_scoped3 0 (by decide), (Finset.mem_erase.mpr ⟨ne_cl d L cc0_scoped5 1 cc0_scoped1 1 (by decide), (Finset.mem_erase.mpr ⟨ne_cl d L cc0_scoped5 1 cc0_scoped1 0 (by decide), (mem_cl d L cc0_scoped5 1 (by decide))⟩)⟩)⟩)⟩)⟩)]

theorem ownBufs_V : (ownBufs (thr d L) : sProp 𝕄)
    = iprop((∃ f, (thr d L).loc cc0_scoped0 ↦{fullShare} f) ∗ (∃ f, (thr d L).loc cc0_scoped2 ↦{fullShare} f) ∗ (∃ f, (thr d L).loc cc0_scoped4 ↦{fullShare} f) ∗ bigSep ((((ownRefs (τ := τ) (.scVector (cV L) (jV L))).erase ((Proc.scVector (cV L) (jV L)).devRef cc0_scoped0)).erase ((Proc.scVector (cV L) (jV L)).devRef cc0_scoped2)).erase ((Proc.scVector (cV L) (jV L)).devRef cc0_scoped4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide), (SparseCore.Cfg.mem_ownRefs_of_owner (p := Proc.scVector (cV L) (jV L)) (b := (Proc.scVector (cV L) (jV L)).devRef cc0_scoped2) rfl)⟩),
    SparseCore.bigSep_erase' (Finset.mem_erase.mpr ⟨fun e => absurd (Proc.devRef_injective _ e) (show (cc0_scoped4 : Ref sig .scVector) ≠ cc0_scoped2 by decide), (Finset.mem_erase.mpr ⟨fun e => absurd (Proc.devRef_injective _ e) (show (cc0_scoped4 : Ref sig .scVector) ≠ cc0_scoped0 by decide), (SparseCore.Cfg.mem_ownRefs_of_owner (p := Proc.scVector (cV L) (jV L)) (b := (Proc.scVector (cV L) (jV L)).devRef cc0_scoped4) rfl)⟩)⟩)]

/-! ## A buffer and its two slots -/

theorem set_su (s : ℕ) : (slot suV s).view.set = Finset.univ.filter fun x : S2x1x8x2048.Idx => (x 0).val = s % 2 := by
  have e : (slot suV s).view.set = (Rect.unit (s := S2x1x8x2048) ![s % 2, 0, 0, 0] S1x1x8x2048.size (inb_slot s)).set :=
    (View.set_reshape _ _).trans (View.set_slice_whole _ _)
  rw [e]
  ext x
  rw [Rect.mem_set_unit, Finset.mem_filter]
  constructor
  · intro h
    have h0 : s % 2 ≤ (x 0).val ∧ (x 0).val < s % 2 + 1 := h 0
    exact ⟨Finset.mem_univ _, by omega⟩
  · rintro ⟨-, h⟩ a
    match a with
    | 0 => exact (show s % 2 ≤ (x 0).val ∧ (x 0).val < s % 2 + 1 by omega)
    | 1 => exact (show 0 ≤ (x 1).val ∧ (x 1).val < 0 + 1 from ⟨Nat.zero_le _, (x 1).isLt⟩)
    | 2 => exact (show 0 ≤ (x 2).val ∧ (x 2).val < 0 + 8 from ⟨Nat.zero_le _, (x 2).isLt⟩)
    | 3 => exact (show 0 ≤ (x 3).val ∧ (x 3).val < 0 + 2048 from ⟨Nat.zero_le _, (x 3).isLt⟩)
theorem sdiff_su : Finset.univ \ (slot suV 0).view.set = (slot suV 1).view.set := by
  rw [set_su, set_su]
  ext x
  have h : (x 0).val < 2 := (x 0).isLt
  simp only [Finset.mem_sdiff, Finset.mem_univ, true_and, Finset.mem_filter]
  omega

theorem set_sv (s : ℕ) : (slot svV s).view.set = Finset.univ.filter fun x : S2x1x8x2048.Idx => (x 0).val = s % 2 := by
  have e : (slot svV s).view.set = (Rect.unit (s := S2x1x8x2048) ![s % 2, 0, 0, 0] S1x1x8x2048.size (inb_slot s)).set :=
    (View.set_reshape _ _).trans (View.set_slice_whole _ _)
  rw [e]
  ext x
  rw [Rect.mem_set_unit, Finset.mem_filter]
  constructor
  · intro h
    have h0 : s % 2 ≤ (x 0).val ∧ (x 0).val < s % 2 + 1 := h 0
    exact ⟨Finset.mem_univ _, by omega⟩
  · rintro ⟨-, h⟩ a
    match a with
    | 0 => exact (show s % 2 ≤ (x 0).val ∧ (x 0).val < s % 2 + 1 by omega)
    | 1 => exact (show 0 ≤ (x 1).val ∧ (x 1).val < 0 + 1 from ⟨Nat.zero_le _, (x 1).isLt⟩)
    | 2 => exact (show 0 ≤ (x 2).val ∧ (x 2).val < 0 + 8 from ⟨Nat.zero_le _, (x 2).isLt⟩)
    | 3 => exact (show 0 ≤ (x 3).val ∧ (x 3).val < 0 + 2048 from ⟨Nat.zero_le _, (x 3).isLt⟩)
theorem sdiff_sv : Finset.univ \ (slot svV 0).view.set = (slot svV 1).view.set := by
  rw [set_sv, set_sv]
  ext x
  have h : (x 0).val < 2 := (x 0).isLt
  simp only [Finset.mem_sdiff, Finset.mem_univ, true_and, Finset.mem_filter]
  omega

theorem set_so (s : ℕ) : (oslot soV s).view.set = Finset.univ.filter fun x : S2x8x2048.Idx => (x 0).val = s % 2 := by
  have e : (oslot soV s).view.set = (Rect.unit (s := S2x8x2048) ![s % 2, 0, 0] S1x8x2048.size (inb_oslot s)).set :=
    (View.set_reshape _ _).trans (View.set_slice_whole _ _)
  rw [e]
  ext x
  rw [Rect.mem_set_unit, Finset.mem_filter]
  constructor
  · intro h
    have h0 : s % 2 ≤ (x 0).val ∧ (x 0).val < s % 2 + 1 := h 0
    exact ⟨Finset.mem_univ _, by omega⟩
  · rintro ⟨-, h⟩ a
    match a with
    | 0 => exact (show s % 2 ≤ (x 0).val ∧ (x 0).val < s % 2 + 1 by omega)
    | 1 => exact (show 0 ≤ (x 1).val ∧ (x 1).val < 0 + 8 from ⟨Nat.zero_le _, (x 1).isLt⟩)
    | 2 => exact (show 0 ≤ (x 2).val ∧ (x 2).val < 0 + 2048 from ⟨Nat.zero_le _, (x 2).isLt⟩)
theorem sdiff_so : Finset.univ \ (oslot soV 0).view.set = (oslot soV 1).view.set := by
  rw [set_so, set_so]
  ext x
  have h : (x 0).val < 2 := (x 0).isLt
  simp only [Finset.mem_sdiff, Finset.mem_univ, true_and, Finset.mem_filter]
  omega

theorem two_split {ℓ : Loc nD τ sig} (I J : Finset (Idx ℓ)) (e : Finset.univ \ I = J) :
    (iprop(∃ f, ℓ ↦{fullShare} f) : sProp 𝕄) ⊢ iprop((∃ f, ℓ ↦[I]{fullShare} f) ∗ ∃ f, ℓ ↦[J]{fullShare} f) := by
  subst e
  iintro ⟨%f, H⟩
  ihave H := (pointsTo_split_subset (Finset.subset_univ I)).1 $$ H
  icases H with ⟨H1, H2⟩
  isplitl [H1]; · iexists f; iexact H1
  iexists f; iexact H2

theorem two_join {ℓ : Loc nD τ sig} (I J : Finset (Idx ℓ)) (e : Finset.univ \ I = J) :
    iprop((∃ f, ℓ ↦[I]{fullShare} f) ∗ ∃ f, ℓ ↦[J]{fullShare} f) ⊢ (iprop(∃ f, ℓ ↦{fullShare} f) : sProp 𝕄) := by
  subst e
  iintro ⟨⟨%f, H1⟩, %g, H2⟩
  ihave H := (pointsTo_join_subset (Finset.subset_univ I)) $$ [H1 H2]
  · isplitl [H1] <;> iassumption
  iexists _; iexact H

/-! ## The task -/

/-- What a task gets: shares of the operands and its rows of the result, held at `f`. -/
abbrev Tk (q : PosShare TreeShare) (f : Buf (Elt F) (oLoc d)) : sProp 𝕄 :=
  iprop((uLoc d ↦{q} m (uLoc d)) ∗ (vLoc d ↦{q} m (vLoc d)) ∗ (oLoc d ↦[RS (row L 0) (row L 64)]{fullShare} f))

theorem off2_eq : k0_off2 L = ![0, min (row L 0) 16376, 0] := by
  rw [Nat.min_eq_left (row_le L 0 (by decide)), k0_off2_eq]
  unfold row
  rw [Nat.mul_zero, Nat.zero_add]

theorem HD_end (X : XRef) (B : BRef) (G : DmaSems sig S2) (q : PosShare TreeShare) (fX : Buf (Elt F) (X.view.loc (thr d L))) :
    HD d L X B G q fX 64 = Free d L X B G (qs q 0) fX 0 := by
  unfold HD
  rw [if_neg (Nat.lt_irrefl 64)]

theorem HD_start (X : XRef) (B : BRef) (G : DmaSems sig S2) (q : PosShare TreeShare) (fX : Buf (Elt F) (X.view.loc (thr d L))) :
    HD d L X B G q fX 0 = Busy d L X B G (qs q 0) fX (row L 0) 0 := by
  unfold HD
  rw [if_pos (by decide)]

theorem OHD_start (Y : YRef) (C : CRef) (G : DmaSems sig S2) (fY : Buf (Elt F) (Y.view.loc (thr d L))) :
    OHD d L Y C G fY 0 = OFree d L C G 1 := by
  unfold OHD
  rw [if_pos rfl]

theorem OHD_end (Y : YRef) (C : CRef) (G : DmaSems sig S2) (fY : Buf (Elt F) (Y.view.loc (thr d L))) :
    OHD d L Y C G fY 64 = OBusy d L Y C G fY (row L 63) 65 := by
  unfold OHD
  rw [if_neg (by decide)]

theorem done_end : iprop(ODone m d L 64 ∗ OB d L oV (OUT m d) (row L 63)) ⊢ (oLoc d ↦[RS (row L 0) (row L 64)]{fullShare} OUT m d : sProp 𝕄) := by
  have h := done_join m d L 64 le_rfl
  rw [if_neg (by decide)] at h
  exact h

theorem off32_eq : k0_off32 (w11 64) = ![65 % 2] := by decide +kernel

set_option maxHeartbeats 4000000 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ Tk m d L q (m (oLoc d))
        ∗ scopedBufs (thr d L) ∗ scopedSems0 (thr d L) ∗ owes (thr d L) O W)
      ⊢ wp frame (wpE (defs₀ (F := F)) 𝒱₀ (thr d L) none) Set.univ
          (cc0_pack_expert_table_sc L uV (Memref.isWhole_whole _) vV (Memref.isWhole_whole _) oV (Memref.isWhole_whole _)
            suV (Memref.isWhole_whole _) cc0_scoped1 svV (Memref.isWhole_whole _) cc0_scoped3 soV (Memref.isWhole_whole _) cc0_scoped5)
          fun _ => iprop(Tk m d L q (OUT m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hu, Hv, Ho⟩, ⟨Hbu, Hbv, Hbo, Hbufs⟩, ⟨Hu0, Hu1, Hv0, Hv1, Ho0, Ho1, Hsems⟩, HO⟩
  ihave #Hmw := (show levAts (K (F := F)).L (K (F := F)).lev ⊢ Transfers.MayWaits (thr d L) (default : HIx 1) O from
    (K (F := F)).mayWaits_none (thr := thr d L) hO) $$ Hlv
  ihave Hbu := (two_split (ℓ := (thr d L).loc cc0_scoped0) (slot suV 0).view.set (slot suV 1).view.set sdiff_su) $$ Hbu
  icases Hbu with ⟨Hbu0, Hbu1⟩
  ihave Hbv := (two_split (ℓ := (thr d L).loc cc0_scoped2) (slot svV 0).view.set (slot svV 1).view.set sdiff_sv) $$ Hbv
  icases Hbv with ⟨Hbv0, Hbv1⟩
  ihave Hbo := (two_split (ℓ := (thr d L).loc cc0_scoped4) (oslot soV 0).view.set (oslot soV 1).view.set sdiff_so) $$ Hbo
  icases Hbo with ⟨Hbo0, Hbo1⟩
  ihave Hu := (pointsTo_share (PosShare.mem_left_op_right q)).1 $$ Hu
  icases Hu with ⟨HuL, HuR⟩
  ihave Hv := (pointsTo_share (PosShare.mem_left_op_right q)).1 $$ Hv
  icases Hv with ⟨HvL, HvR⟩
  have hus : (uV).view.set = Finset.univ := View.set_whole _
  have hvs : (vV).view.set = Finset.univ := View.set_whole _
  simp only [cc0_pack_expert_table_sc_eq_skeleton, cc0_pack_expert_table_sc_skel, k0_part10_eq_skeleton, k0_part10_skel, k0_part11_eq_skeleton, k0_part11_skel,
    Prog.lift, Prog.bind_op, Prog.bind_ret, Prog.pure_eq_ret, Prog.bind_assoc]
  iapply (wp_start d L uV suV cc0_scoped1 (qs q 0) (m (uLoc d)) (row L 0) 0 (off2_eq L) k0_off1_eq k0_off3_eq _ _ _) $$ [Hbu0 Hu0 HuL]
  · isplitl [Hbu0]; · iexact Hbu0
    isplitl [Hu0]; · iexact Hu0
    rw [hus]; iexact HuL
  iintro HU
  iapply (wp_start d L vV svV cc0_scoped3 (qs q 0) (m (vLoc d)) (row L 0) 0 (off2_eq L) k0_off1_eq k0_off3_eq _ _ _) $$ [Hbv0 Hv0 HvL]
  · isplitl [Hbv0]; · iexact Hbv0
    isplitl [Hv0]; · iexact Hv0
    rw [hvs]; iexact HvL
  iintro HV
  iapply (Scf.wp_for_bind _ _ _ _ _ _ _ _ _ (fun n acc => Inv m d L q q O W n acc) (fun k acc => wp_trip m d L q q O W _ k acc)) $$ [HU HV Hbu1 Hu1 HuR Hbv1 Hv1 HvR Hbo0 Ho0 Hbo1 Ho1 Ho HO]
  · isplitr; · ipureintro; decide
    isplitl [HU]; · iapply (Entails.of_eq (HD_start d L uV suV cc0_scoped1 q (m (uLoc d))).symm) $$ HU
    isplitl [Hbu1 Hu1 HuR]
    · isplitl [Hbu1]; · iexact Hbu1
      isplitl [Hu1]; · iexact Hu1
      rw [hus]; iexact HuR
    isplitl [HV]; · iapply (Entails.of_eq (HD_start d L vV svV cc0_scoped3 q (m (vLoc d))).symm) $$ HV
    isplitl [Hbv1 Hv1 HvR]
    · isplitl [Hbv1]; · iexact Hbv1
      isplitl [Hv1]; · iexact Hv1
      rw [hvs]; iexact HvR
    isplitl [Hbo1 Ho1]
    · iapply (Entails.of_eq (OHD_start d L oV soV cc0_scoped5 (OUT m d)).symm)
      isplitl [Hbo1]; · iexact Hbo1
      iexact Ho1
    isplitl [Hbo0 Ho0]
    · isplitl [Hbo0]; · iexact Hbo0
      iexact Ho0
    isplitr
    · have e : RS (row L 0) (row L (0 - 1)) = ∅ := by
        ext x; rw [mem_RS]; simp
      unfold ODone
      rw [e, pointsTo_empty]; iempintro
    isplitl [Ho]; · iexact Ho
    isplitr; · iexact Hmw
    iexists W
    isplitr; · ipureintro; exact fun p hp => .inl hp
    iexact HO
  iintro %acc ⟨%hacc, HU0, HU1, HV0, HV1, HOh, HOf, Hdone, -, -, HO⟩
  subst hacc
  rw [show Scf.trips k0_t1_loop.lb k0_t1_loop.ub k0_t1_loop.st = 64 from trips_t1]
  ihave HU0 := (Entails.of_eq (HD_end d L uV suV cc0_scoped1 q (m (uLoc d)))) $$ HU0
  ihave HV0 := (Entails.of_eq (HD_end d L vV svV cc0_scoped3 q (m (vLoc d)))) $$ HV0
  ihave HU1 := (Entails.of_eq (Free_mod d L uV suV cc0_scoped1 q (m (uLoc d)) (64 + 1) 1 rfl)) $$ HU1
  ihave HV1 := (Entails.of_eq (Free_mod d L vV svV cc0_scoped3 q (m (vLoc d)) (64 + 1) 1 rfl)) $$ HV1
  ihave HOf := (Entails.of_eq (OFree_mod (F := F) d L soV cc0_scoped5 64 0 rfl)) $$ HOf
  ihave HOh := (Entails.of_eq (OHD_end d L oV soV cc0_scoped5 (OUT m d))) $$ HOh
  simp only [words]
  iapply (wp_assume 𝒱₀ (thr d L) none Set.univ (chk6 L))
  iapply (wp_assume 𝒱₀ (thr d L) none Set.univ chk5)
  iapply (wp_oland d L oV soV cc0_scoped5 (OUT m d) (row L 63) 65 off32_eq _ _) $$ [HOh HO]
  · isplitl [HOh]; · iexact HOh
    isplitr; · iexact Hmw
    iexact HO
  iintro ⟨Hlast, HOe, HO⟩
  ihave HOe := (Entails.of_eq (OFree_mod (F := F) d L soV cc0_scoped5 65 1 rfl)) $$ HOe
  ihave Hdone := (done_end m d L) $$ [Hdone Hlast]
  · isplitl [Hdone] <;> iassumption
  rw [wp_ret]
  imodintro
  icases HU0 with ⟨Hbu0, Hu0, HuL⟩
  icases HU1 with ⟨Hbu1, Hu1, HuR⟩
  icases HV0 with ⟨Hbv0, Hv0, HvL⟩
  icases HV1 with ⟨Hbv1, Hv1, HvR⟩
  icases HOf with ⟨Hbo0, Ho0⟩
  icases HOe with ⟨Hbo1, Ho1⟩
  rw [hus, hvs]
  isplitl [HuL HuR HvL HvR Hdone]
  · isplitl [HuL HuR]
    · iapply (pointsTo_share (PosShare.mem_left_op_right q)).2
      isplitl [HuL]; · iexact HuL
      iexact HuR
    isplitl [HvL HvR]
    · iapply (pointsTo_share (PosShare.mem_left_op_right q)).2
      isplitl [HvL]; · iexact HvL
      iexact HvR
    iexact Hdone
  isplitl [Hbu0 Hbu1 Hbv0 Hbv1 Hbo0 Hbo1 Hbufs]
  · isplitl [Hbu0 Hbu1]
    · iapply (two_join (ℓ := (thr d L).loc cc0_scoped0) (slot suV 0).view.set (slot suV 1).view.set sdiff_su)
      isplitl [Hbu0]; · iexact Hbu0
      iexact Hbu1
    isplitl [Hbv0 Hbv1]
    · iapply (two_join (ℓ := (thr d L).loc cc0_scoped2) (slot svV 0).view.set (slot svV 1).view.set sdiff_sv)
      isplitl [Hbv0]; · iexact Hbv0
      iexact Hbv1
    isplitl [Hbo0 Hbo1]
    · iapply (two_join (ℓ := (thr d L).loc cc0_scoped4) (oslot soV 0).view.set (oslot soV 1).view.set sdiff_so)
      isplitl [Hbo0]; · iexact Hbo0
      iexact Hbo1
    iexact Hbufs
  isplitl [Hu0 Hu1 Hv0 Hv1 Ho0 Ho1 Hsems]
  · isplitl [Hu0]; · iexact Hu0
    isplitl [Hu1]; · iexact Hu1
    isplitl [Hv0]; · iexact Hv0
    isplitl [Hv1]; · iexact Hv1
    isplitl [Ho0]; · iexact Ho0
    isplitl [Ho1]; · iexact Ho1
    iexact Hsems
  iexact HO

end Cert.Proof.Pack

end
-- ==== Proof.Launch.lean ====
/-
  The launch: every SparseCore gets a share of the operands and its rows of the result, every task of it a share of those and
  its rows; the whole program ends with the operands kept and the packed table in the result.
-/
module

public import proofs.«01_k».proof.Proof.Tile

@[expose] public section

noncomputable section

namespace Cert.Proof.Pack

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (m : (ℓ : Loc nD τ sig) → Buf (Elt F) ℓ) (ρ : Dev nD → PrngReg)

/-! ## The payloads -/

/-- SparseCore `c`'s part: shares of the operands and its rows of the result, held at `f`. -/
abbrev CP (d : Dev nD) (c : Fin 2) (f : Buf (Elt F) (oLoc d)) : sProp 𝕄 :=
  iprop((uLoc d ↦{qC c} m (uLoc d)) ∗ (vLoc d ↦{qC c} m (vLoc d)) ∗ (oLoc d ↦[CS c]{fullShare} f))
/-- Task `(c, s)`'s part. -/
abbrev TP (d : Dev nD) (c : Fin 2) (s : Fin 16) (f : Buf (Elt F) (oLoc d)) : sProp 𝕄 :=
  iprop((uLoc d ↦{qT c s} m (uLoc d)) ∗ (vLoc d ↦{qT c s} m (vLoc d)) ∗ (oLoc d ↦[TS c s]{fullShare} f))

/-- The call hands each SparseCore its part and each task its; both bring it back with the rows packed. -/
def P : (K (F := F)).Pay (nD := nD) (Val := Elt F) (Name := ℕ) (U := UU) where
  st := fun q d c => match q with | 0 => CP m d (Fin.cast nCore_zero c) (m (oLoc d))
  dn := fun q d c => match q with | 0 => CP m d (Fin.cast nCore_zero c) (OUT m d)
  go := fun q d c i => match q with | 0 => TP m d (Fin.cast nCore_zero c) (Fin.cast nSub_zero i) (m (oLoc d))
  td := fun q d c i => match q with | 0 => TP m d (Fin.cast nCore_zero c) (Fin.cast nSub_zero i) (OUT m d)
  x := fun _ _ => iprop(emp)

instance P_storable : (P (F := F) m).IsStorable where
  st q d c := match q with
    | 0 => (inferInstance : BI.Storable (upEmb : UEmb _ 𝕄) (CP m d (Fin.cast nCore_zero c) (m (oLoc d))))
  dn q d c := match q with
    | 0 => (inferInstance : BI.Storable (upEmb : UEmb _ 𝕄) (CP m d (Fin.cast nCore_zero c) (OUT m d)))
  go q d c i := match q with
    | 0 => (inferInstance : BI.Storable (upEmb : UEmb _ 𝕄) (TP m d (Fin.cast nCore_zero c) (Fin.cast nSub_zero i) (m (oLoc d))))
  td q d c i := match q with
    | 0 => (inferInstance : BI.Storable (upEmb : UEmb _ 𝕄) (TP m d (Fin.cast nCore_zero c) (Fin.cast nSub_zero i) (OUT m d)))

section Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_pack_expert_table_sc (coordsV c s)
          uV (Memref.isWhole_whole _) vV (Memref.isWhole_whole _) oV (Memref.isWhole_whole _)
          suV (Memref.isWhole_whole _) cc0_scoped1 svV (Memref.isWhole_whole _) cc0_scoped3 soV (Memref.isWhole_whole _) cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's rows are its blocks'. -/
theorem rows_eq (c : Fin (grid0.bound 0)) (s : Fin (grid0.bound 1)) : RS (row (coordsV c s) 0) (row (coordsV c s) 64) = RS (base c.val s.val) (base c.val s.val + 512) := by
  have h0 : row (coordsV c s) 0 = 8 * 0 + (512 * s.val + 8192 * c.val) := rfl
  have h1 : row (coordsV c s) 64 = 8 * 64 + (512 * s.val + 8192 * c.val) := rfl
  rw [h0, h1]
  unfold base
  congr 1 <;> omega

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body m d (coordsV ⟨_, hci.1⟩ ⟨_, hci.2⟩) hF (qT (Fin.cast nCore_zero c) (Fin.cast nSub_zero i)) O W hO
  unfold Tk at h
  rw [rows_eq] at h
  exact h.trans (wp_mono frame _ _ fun _ => obl_post)

end Tile

/-! ## Splitting and joining -/

theorem CP_tasks (d : Dev nD) (c : Fin 2) (f : Buf (Elt F) (oLoc d)) : CP m d c f = bigSep Finset.univ fun s : Fin 16 => TP m d c s f := by
  unfold CP TP
  have hu : (uLoc d ↦{qC c} m (uLoc d) : sProp 𝕄) = bigSep Finset.univ fun s : Fin 16 => uLoc d ↦{qT c s} m (uLoc d) := ShareLeaves.pointsTo_leaves Finset.univ _ 4 (qC c)
  have hv : (vLoc d ↦{qC c} m (vLoc d) : sProp 𝕄) = bigSep Finset.univ fun s : Fin 16 => vLoc d ↦{qT c s} m (vLoc d) := ShareLeaves.pointsTo_leaves Finset.univ _ 4 (qC c)
  rw [bigSep_sep', bigSep_sep', hu, hv,
    ← pointsTo_biUnion Finset.univ (ℓ := oLoc d) (TS c) (TS_disjoint c), TS_cover]

theorem all_cores (d : Dev nD) (f : Buf (Elt F) (oLoc d)) :
    (iprop((uLoc d ↦{fullShare} m (uLoc d)) ∗ (vLoc d ↦{fullShare} m (vLoc d)) ∗ oLoc d ↦{fullShare} f) : sProp 𝕄) = bigSep Finset.univ fun c : Fin 2 => CP m d c f := by
  unfold CP
  have hu : (uLoc d ↦{fullShare} m (uLoc d) : sProp 𝕄) = bigSep Finset.univ fun c : Fin 2 => uLoc d ↦{qC c} m (uLoc d) := ShareLeaves.pointsTo_leaves Finset.univ _ 1 fullShare
  have hv : (vLoc d ↦{fullShare} m (vLoc d) : sProp 𝕄) = bigSep Finset.univ fun c : Fin 2 => vLoc d ↦{qC c} m (vLoc d) := ShareLeaves.pointsTo_leaves Finset.univ _ 1 fullShare
  rw [bigSep_sep', bigSep_sep', hu, hv,
    ← pointsTo_biUnion Finset.univ (ℓ := oLoc d) CS CS_disjoint, CS_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show CP m d (Fin.cast nCore_zero c) (m (oLoc d)) ⊢ |={Set.univ}=> iprop(
      (bigSep Finset.univ fun i : Fin ((K (F := F)).nSub 0) => TP m d (Fin.cast nCore_zero c) (Fin.cast nSub_zero i) (m (oLoc d)))
      ∗ ((bigSep Finset.univ fun i : Fin ((K (F := F)).nSub 0) => TP m d (Fin.cast nCore_zero c) (Fin.cast nSub_zero i) (OUT m d))
          -∗ CP m d (Fin.cast nCore_zero c) (OUT m d)))
  rw [bigSep_tasks (F := F) (fun i => TP m d (Fin.cast nCore_zero c) i (m (oLoc d))), bigSep_tasks (F := F) (fun i => TP m d (Fin.cast nCore_zero c) i (OUT m d)),
    CP_tasks, CP_tasks]
  iintro H; imodintro
  isplitl [H]; · iexact H
  iintro H
  iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host program -/

theorem unscopedBufs_eq (d : Dev nD) (W : (b : Ref sig .tc) → Buf (Elt F) ((d.tc : Thread nD τ).loc b)) :
    (unscopedBufs d W : sProp 𝕄) = iprop((uLoc d ↦{fullShare} W main_arg0) ∗ (vLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((uLoc d ↦{fullShare} m (uLoc d)) ∗ (vLoc d ↦{fullShare} m (vLoc d)) ∗ oLoc d ↦{fullShare} m (oLoc d)) :=
  (bigSep_cores (F := F) (fun c => CP m d c (m (oLoc d)))).trans (all_cores m d _).symm
abbrev FIN (d : Dev nD) : sProp 𝕄 := iprop((uLoc d ↦{fullShare} m (uLoc d)) ∗ (vLoc d ↦{fullShare} m (vLoc d)) ∗ oLoc d ↦{fullShare} OUT m d)
theorem dn0_eq (d : Dev nD) : (bigSep Finset.univ fun c : Fin ((K (F := F)).nCore 0) => (P m).dn 0 d c) = FIN m d :=
  (bigSep_cores (F := F) (fun c => CP m d c (OUT m d))).trans (all_cores m d _).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (oLoc d) = OUT m d ∧ s'.mem.mem (uLoc d) = m (uLoc d) ∧ s'.mem.mem (vLoc d) = m (vLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := uLoc d) (I := Finset.univ) (q := fullShare) (f := m (uLoc d)))) $$ [HSI Hi]
  · isplitl [HSI] <;> iassumption
  icases H with ⟨%h1, HSI, -⟩
  ihave H := (persistent_entails_right (SI_pointsTo_agree (st := s') (ℓ := vLoc d) (I := Finset.univ) (q := fullShare) (f := m (vLoc d)))) $$ [HSI Hx]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro; exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = OUT m c ∧ r.2.mem (uLoc c) = m (uLoc c) ∧ r.2.mem (vLoc c) = m (vLoc c)) ∧ r.2.sem = fun _ => 0

theorem run_main [∀ e, Nonempty (Elt F e)] :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pack

end
-- ==== Proof.PackClaims.lean ====
/-
  The claims about the table-packing program: its frame, the reference's frame, and that both compute the same words.
-/
module

public import proofs.«01_k».proof.Proof.Launch
public import proofs.«01_k».proof.Proof.Gen.Reference
public import proofs.«01_k».proof.Proof.Gen.Reference.Run

@[expose] public section

noncomputable section

namespace Cert.Proof.Pack

open Idealize.ShloMosaic Idealize.SL.Sem

/-- The first table of an operand, as a matrix, at row `x 0` and column `x 1`. -/
theorem table_apply {α : Type} (v : Cert.Reference.S2x16384x2048.Idx → α) (x : Cert.Reference.S16384x2048.Idx) :
    shapeCast Cert.Reference.S16384x2048
      (extractStridedSlice Cert.Reference.S1x16384x2048 ![0, 0, 0] v Cert.Reference.Gen.slices_S2x16384x2048_S1x16384x2048_0_0_0)
      Cert.Reference.Gen.shapeCasts_S1x16384x2048_S16384x2048 x = v (ix0 x) := by
  refine (shapeCast_dropUnit_apply ![16384, 2048] _ _ x).trans ?_
  refine congrArg v (funext fun a => ?_)
  fin_cases a <;> exact Fin.ext (Nat.zero_add _)

/-- A right shift by sixteen is the same on the host as on a vector. -/
theorem shr16_host (a : BitVec 32) : IntOp.shrui .host a 16#32 = IntOp.shrui .vector a 16#32 := rfl

/-- The frame of the packing program. -/
theorem frame_kernel : Cert.quiescent_Kernel := fun m ρ _ =>
  (θ_run Cert.Kernel.defs _ _).mono (fun _ h => ⟨fun c => ⟨(h.1 c).2.1, (h.1 c).2.2⟩, h.2⟩) (run_main (F := Bits) m ρ)

/-- The frame of the reference: it has no semaphore. -/
theorem frame_reference : Cert.quiescent_Reference := fun m ρ _ =>
  (θ_run Cert.Reference.defs _ _).mono
    (fun r h => ⟨fun c => (h c).2, Idealize.ShloMosaic.sem_eq_zero_of_no_sems (by decide) r.2⟩)
    (Cert.Reference.Value.run (F := Bits) m ρ)

/-- Kernel and reference end with the same words. -/
theorem bitexact : Cert.bitexact_Kernel_Reference := by
  intro m ρ m' ρ' _ hag
  refine ⟨fun c => OUT m c, (θ_run Cert.Kernel.defs _ _).mono (fun _ h c => h.1 c) (run_main (F := Bits) m ρ), ?_⟩
  refine (θ_run Cert.Reference.defs _ _).mono (fun r h c => ⟨(h c).1.trans ?_, (h c).2⟩)
    (Cert.Reference.Value.run (F := Bits) m' ρ')
  rw [(hag c).1, (hag c).2]
  funext x
  have hu := table_apply (m (uLoc c)) x
  have hv := table_apply (m (vLoc c)) x
  show IntOp.ori (IntOp.shrui .host (BitOps.toBits (FloatOps.extf .f32 _ (FloatOps.truncf .bf16 _
      (shapeCast Cert.Reference.S16384x2048 _ _ x)))) 16#32)
    (BitOps.toBits (FloatOps.extf .f32 _ (FloatOps.truncf .bf16 _ (shapeCast Cert.Reference.S16384x2048 _ _ x)))) = PK _ _
  rw [shr16_host]
  unfold PK
  exact congrArg₂ (fun a b : Bits .f32 => IntOp.ori (IntOp.shrui .vector (BitOps.toBits (FloatOps.extf .f32 _ (FloatOps.truncf .bf16 _ a))) 16#32)
    (BitOps.toBits (FloatOps.extf .f32 _ (FloatOps.truncf .bf16 _ b)))) hu hv

end Cert.Proof.Pack

end
-- ==== Proof.InProjClaims.lean ====
/-
  The input projection: the normed rows times the weights, in blocks of 512 rows and 2304 columns.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The reference's term over the arguments. -/
abbrev REF (A0 : FVec Ideal S8192x2048 .f32) (A1 : FVec Ideal S2048 .f32) (A2 : FVec Ideal S2048x6912 .f32) : FVec Ideal S8192x6912 .f32 :=
  Host.dotGeneral Cert.InProjRefIdeal.dot_S8192x2048_S2048x6912_S8192x6912_1_0_0_1_n_n none (mulf (mulf A0 (broadcastInDim Cert.InProjRefIdeal.S8192x2048 ![0, 1] Cert.InProjRefIdeal.Gen.bcast_S8192x1_S8192x2048_0_1 (Host.rsqrt (addf (Host.divf (broadcastInDim Cert.InProjRefIdeal.S8192x1 ![0] Cert.InProjRefIdeal.Gen.bcast_S8192_S8192x1_0 (Host.reduceAdd (mulf A0 A0) (constant Cert.InProjRefIdeal.S_ .f32 0x00000000#32) Cert.InProjRefIdeal.Gen.reducesTo_S8192x2048_S8192_d1 Cert.InProjRefIdeal.Gen.h_S_)) (broadcastInDim Cert.InProjRefIdeal.S8192x1 ![] Cert.InProjRefIdeal.Gen.bcast_S_S8192x1 (constant Cert.InProjRefIdeal.S_ .f32 0x45000000#32))) (broadcastInDim Cert.InProjRefIdeal.S8192x1 ![] Cert.InProjRefIdeal.Gen.bcast_S_S8192x1 (constant Cert.InProjRefIdeal.S_ .f32 0x358637BD#32)))))) (broadcastInDim Cert.InProjRefIdeal.S8192x2048 ![0, 1] Cert.InProjRefIdeal.Gen.bcast_S1x2048_S8192x2048_0_1 (broadcastInDim Cert.InProjRefIdeal.S1x2048 ![1] Cert.InProjRefIdeal.Gen.bcast_S2048_S1x2048_1 A1))) A2

/-- The windows' block indices at every grid point. -/
theorem idx : ∀ t : Fin cfg0.N, win0_0.index t = ![(grid0.coords t 1).val, 0] ∧ win0_1.index t = ![0, 0] ∧ win0_2.index t = ![0, (grid0.coords t 0).val] ∧ win0_3.index t = ![(grid0.coords t 1).val, (grid0.coords t 0).val] :=
  (by decide +kernel : ∀ t : Fin grid0.N, _)

/-- What the body stores at block index `y` of point `t` is the reference at the array index that `y` sits at. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-! ## The claims -/

theorem frame_bits : Cert.quiescent_InProj := fun m ρ _ => Cert.InProj.Gen.frame m ρ
theorem frame_ideal : Cert.quiescent_InProjIdeal := fun m ρ _ => Cert.InProjIdeal.Gen.frame m ρ

/-- The frame of the reference: it has no semaphore. -/
theorem frame_ref : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- Kernel and reference compute the same function over the extended reals. -/
theorem same : Cert.algebraic_InProjIdeal_InProjRefIdeal := by
  pair_intro
  · run_from Cert.InProjIdeal.Gen.run_main m g
  · run_from Cert.InProjRefIdeal.Value.run m' g'
    exact (final m c).symm

end Cert.InProjIdeal.Value

end
-- ==== Proof.OutProjClaims.lean ====
/-
  The output projection: the three mixers' outputs, side by side, times the weights, plus the residual.
-/
module

public import proofs.«01_k».proof.Defs
public import proofs.«01_k».proof.Proof.Gen.OutProj.Frame
public import proofs.«01_k».proof.Proof.Gen.OutProjIdeal.Frame
public import proofs.«01_k».proof.Proof.Gen.OutProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The reference's term over the arguments. -/
abbrev REF (A0 : FVec Ideal S8192x768 .bf16) (A1 : FVec Ideal S8192x512 .bf16) (A2 : FVec Ideal S8192x768 .bf16) (A3 : FVec Ideal S8192x2048 .f32) (A4 : FVec Ideal S2048x2048 .f32) : FVec Ideal S8192x2048 .f32 :=
  addf A3 (Host.dotGeneral Cert.OutProjRefIdeal.dot_S8192x2048_S2048x2048_S8192x2048_1_0_0_1_n_n none ((show FVec Ideal S8192x2048 .f32 from concatenate Cert.OutProjRefIdeal.S8192x2048 1 [⟨Cert.OutProjRefIdeal.S8192x768, ((extf .f32 A0 Cert.OutProjRefIdeal.Gen.bitsLt_bf16_f32) : (⟨Cert.OutProjRefIdeal.S8192x768, .f32⟩ : BufTy).Contents (Elt Ideal))⟩, ⟨Cert.OutProjRefIdeal.S8192x512, ((extf .f32 A1 Cert.OutProjRefIdeal.Gen.bitsLt_bf16_f32) : (⟨Cert.OutProjRefIdeal.S8192x512, .f32⟩ : BufTy).Contents (Elt Ideal))⟩, ⟨Cert.OutProjRefIdeal.S8192x768, ((extf .f32 A2 Cert.OutProjRefIdeal.Gen.bitsLt_bf16_f32) : (⟨Cert.OutProjRefIdeal.S8192x768, .f32⟩ : BufTy).Contents (Elt Ideal))⟩] Cert.OutProjRefIdeal.Gen.concatenates_S8192x768_S8192x512_S8192x768_S8192x2048_d1 : (⟨Cert.OutProjRefIdeal.S8192x2048, .f32⟩ : BufTy).Contents (Elt Ideal))) A4)

/-- The windows' block indices at every grid point. -/
theorem idx : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![0, 0] ∧ win0_5.index t = ![(grid0.coords t 0).val, 0] :=
  (by decide +kernel : ∀ t : Fin grid0.N, _)

/-- A sum over the 2048 columns, cut where the three mixers' columns meet. -/
theorem split3 (f : Fin 2048 → EReal) : ∑ x, f x
    = ∑ x : Fin 768, f ⟨x.val, by omega⟩ + ∑ x : Fin 512, f ⟨768 + x.val, by omega⟩ + ∑ x : Fin 768, f ⟨1280 + x.val, by omega⟩ := by
  refine (Fin.sum_univ_add (a := 1280) (b := 768) f).trans ?_
  congr 1
  exact Fin.sum_univ_add (a := 768) (b := 512) fun i : Fin 1280 => f ⟨i.val, by omega⟩

/-- What the body stores at block index `y` of point `t` is the reference at the array index that `y` sits at. -/
theorem point (c : Dev nD) (t : Fin cfg0.N) (y) : k0_pay1 (iblk m c 0 t) (View.ld (iblk m c 4 t) r0_1) (iblk m c 1 t) (View.ld (iblk m c 4 t) r0_3) (iblk m c 2 t) (View.ld (iblk m c 4 t) r0_4) (iblk m c 3 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, REF]
  rw [split3]
  dsimp only
  blk_point [iblk, V, idx t] <;> (exfalso; omega)

/-- The result array after the run is the reference's term. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

/-! ## The claims -/

theorem frame_bits : Cert.quiescent_OutProj := fun m ρ _ => Cert.OutProj.Gen.frame m ρ
theorem frame_ideal : Cert.quiescent_OutProjIdeal := fun m ρ _ => Cert.OutProjIdeal.Gen.frame m ρ

/-- The frame of the reference: it has no semaphore. -/
theorem frame_ref : Cert.quiescent_OutProjRefIdeal := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- Kernel and reference compute the same function over the extended reals. -/
theorem same : Cert.algebraic_OutProjIdeal_OutProjRefIdeal := by
  pair_intro
  · run_from Cert.OutProjIdeal.Gen.run_main m g
  · run_from Cert.OutProjRefIdeal.Value.run m' g'
    exact (final m c).symm

end Cert.OutProjIdeal.Value

end
-- ==== Proof.FinalNormClaims.lean ====
/-
  The final norm: each row divided by the root of its mean square, times the gain.
-/
module

public import proofs.«01_k».proof.Defs
public import proofs.«01_k».proof.Proof.Gen.FinalNorm.Frame
public import proofs.«01_k».proof.Proof.Gen.FinalNormIdeal.Frame
public import proofs.«01_k».proof.Proof.Gen.FinalNormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNormIdeal.Value

open Cert.FinalNormIdeal Cert.FinalNormIdeal.Gen

variable (m : (ℓ : Loc nD τ sig) → Buf (Elt Ideal) ℓ)

/-- The reference's term over the arguments. -/
abbrev REF (A0 : FVec Ideal S8192x2048 .f32) (A1 : FVec Ideal S2048 .f32) : FVec Ideal S8192x2048 .f32 :=
  mulf (mulf A0 (broadcastInDim Cert.FinalNormRefIdeal.S8192x2048 ![0, 1] Cert.FinalNormRefIdeal.Gen.bcast_S8192x1_S8192x2048_0_1 (Host.rsqrt (addf (Host.divf (broadcastInDim Cert.FinalNormRefIdeal.S8192x1 ![0] Cert.FinalNormRefIdeal.Gen.bcast_S8192_S8192x1_0 (Host.reduceAdd (mulf A0 A0) (constant Cert.FinalNormRefIdeal.S_ .f32 0x00000000#32) Cert.FinalNormRefIdeal.Gen.reducesTo_S8192x2048_S8192_d1 Cert.FinalNormRefIdeal.Gen.h_S_)) (broadcastInDim Cert.FinalNormRefIdeal.S8192x1 ![] Cert.FinalNormRefIdeal.Gen.bcast_S_S8192x1 (constant Cert.FinalNormRefIdeal.S_ .f32 0x45000000#32))) (broadcastInDim Cert.FinalNormRefIdeal.S8192x1 ![] Cert.FinalNormRefIdeal.Gen.bcast_S_S8192x1 (constant Cert.FinalNormRefIdeal.S_ .f32 0x358637BD#32)))))) (broadcastInDim Cert.FinalNormRefIdeal.S8192x2048 ![0, 1] Cert.FinalNormRefIdeal.Gen.bcast_S1x2048_S8192x2048_0_1 (broadcastInDim Cert.FinalNormRefIdeal.S1x2048 ![1] Cert.FinalNormRefIdeal.Gen.bcast_S2048_S1x2048_1 A1))

/-- The windows' block indices at every grid point. -/
theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- What the body stores at block index `y` of point `t` is the reference at the array index that `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-! ## The claims -/

theorem frame_bits : Cert.quiescent_FinalNorm := fun m ρ _ => Cert.FinalNorm.Gen.frame m ρ
theorem frame_ideal : Cert.quiescent_FinalNormIdeal := fun m ρ _ => Cert.FinalNormIdeal.Gen.frame m ρ

/-- The frame of the reference: it has no semaphore. -/
theorem frame_ref : Cert.quiescent_FinalNormRefIdeal := fun m ρ _ =>
  (θ_run Cert.FinalNormRefIdeal.defs _ _).mono
    (fun r h => ⟨fun c => (h c).2, Idealize.ShloMosaic.sem_eq_zero_of_no_sems (by decide) r.2⟩)
    (Cert.FinalNormRefIdeal.Value.run (F := Ideal) m ρ)

/-- Kernel and reference compute the same function over the extended reals. -/
theorem same : Cert.algebraic_FinalNormIdeal_FinalNormRefIdeal := by
  pair_intro
  · run_from Cert.FinalNormIdeal.Gen.run_main m g
  · run_from Cert.FinalNormRefIdeal.Value.run m' g'
    exact (final m c).symm

end Cert.FinalNormIdeal.Value

end
-- ==== Proof.ShortConvClaims.lean ====
/-
  The short convolution: three neighbouring rows of a product, weighted and summed, times a gate.
-/
module

public import proofs.«01_k».proof.Defs
public import proofs.«01_k».proof.Proof.Gen.ShortConv.Frame
public import proofs.«01_k».proof.Proof.Gen.ShortConvIdeal.Frame
public import proofs.«01_k».proof.Proof.Gen.ShortConvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ShortConvIdeal.Value

open Cert.ShortConvIdeal Cert.ShortConvIdeal.Gen

variable (m : (ℓ : Loc nD τ sig) → Buf (Elt Ideal) ℓ)

/-- The reference's term over the arguments. -/
abbrev REF (A0 : FVec Ideal S2x4096x6912 .f32) (A1 : FVec Ideal S3x512 .f32) : FVec Ideal S2x4096x512 .bf16 :=
  truncf .bf16 (mulf (extractStridedSlice Cert.ShortConvRefIdeal.S2x4096x512 ![0, 0, 2304] A0 Cert.ShortConvRefIdeal.Gen.slices_S2x4096x6912_S2x4096x512_0_0_2304) (addf (addf (mulf (broadcastInDim Cert.ShortConvRefIdeal.S2x4096x512 ![0, 1, 2] Cert.ShortConvRefIdeal.Gen.bcast_S1x1x512_S2x4096x512_0_1_2 (broadcastInDim Cert.ShortConvRefIdeal.S1x1x512 ![2] Cert.ShortConvRefIdeal.Gen.bcast_S512_S1x1x512_2 (shapeCast Cert.ShortConvRefIdeal.S512 (extractStridedSlice Cert.ShortConvRefIdeal.S1x512 ![0, 0] A1 Cert.ShortConvRefIdeal.Gen.slices_S3x512_S1x512_0_0) Cert.ShortConvRefIdeal.Gen.shapeCasts_S1x512_S512))) (extractStridedSlice Cert.ShortConvRefIdeal.S2x4096x512 ![0, 0, 0] (pad Cert.ShortConvRefIdeal.S2x4098x512 ![0, 1, 0] ![0, 1, 0] ![0, 0, 0] (mulf (extractStridedSlice Cert.ShortConvRefIdeal.S2x4096x512 ![0, 0, 2816] A0 Cert.ShortConvRefIdeal.Gen.slices_S2x4096x6912_S2x4096x512_0_0_2816) (extractStridedSlice Cert.ShortConvRefIdeal.S2x4096x512 ![0, 0, 3328] A0 Cert.ShortConvRefIdeal.Gen.slices_S2x4096x6912_S2x4096x512_0_0_3328)) (sitofp .f32 (constantI Cert.ShortConvRefIdeal.S_ 32 0#32)) Cert.ShortConvRefIdeal.Gen.pads_S2x4096x512_S2x4098x512_000_110_000 Cert.ShortConvRefIdeal.Gen.h_S_) Cert.ShortConvRefIdeal.Gen.slices_S2x4098x512_S2x4096x512_0_0_0)) (mulf (broadcastInDim Cert.ShortConvRefIdeal.S2x4096x512 ![0, 1, 2] Cert.ShortConvRefIdeal.Gen.bcast_S1x1x512_S2x4096x512_0_1_2 (broadcastInDim Cert.ShortConvRefIdeal.S1x1x512 ![2] Cert.ShortConvRefIdeal.Gen.bcast_S512_S1x1x512_2 (shapeCast Cert.ShortConvRefIdeal.S512 (extractStridedSlice Cert.ShortConvRefIdeal.S1x512 ![1, 0] A1 Cert.ShortConvRefIdeal.Gen.slices_S3x512_S1x512_1_0) Cert.ShortConvRefIdeal.Gen.shapeCasts_S1x512_S512))) (extractStridedSlice Cert.ShortConvRefIdeal.S2x4096x512 ![0, 1, 0] (pad Cert.ShortConvRefIdeal.S2x4098x512 ![0, 1, 0] ![0, 1, 0] ![0, 0, 0] (mulf (extractStridedSlice Cert.ShortConvRefIdeal.S2x4096x512 ![0, 0, 2816] A0 Cert.ShortConvRefIdeal.Gen.slices_S2x4096x6912_S2x4096x512_0_0_2816) (extractStridedSlice Cert.ShortConvRefIdeal.S2x4096x512 ![0, 0, 3328] A0 Cert.ShortConvRefIdeal.Gen.slices_S2x4096x6912_S2x4096x512_0_0_3328)) (sitofp .f32 (constantI Cert.ShortConvRefIdeal.S_ 32 0#32)) Cert.ShortConvRefIdeal.Gen.pads_S2x4096x512_S2x4098x512_000_110_000 Cert.ShortConvRefIdeal.Gen.h_S_) Cert.ShortConvRefIdeal.Gen.slices_S2x4098x512_S2x4096x512_0_1_0))) (mulf (broadcastInDim Cert.ShortConvRefIdeal.S2x4096x512 ![0, 1, 2] Cert.ShortConvRefIdeal.Gen.bcast_S1x1x512_S2x4096x512_0_1_2 (broadcastInDim Cert.ShortConvRefIdeal.S1x1x512 ![2] Cert.ShortConvRefIdeal.Gen.bcast_S512_S1x1x512_2 (shapeCast Cert.ShortConvRefIdeal.S512 (extractStridedSlice Cert.ShortConvRefIdeal.S1x512 ![2, 0] A1 Cert.ShortConvRefIdeal.Gen.slices_S3x512_S1x512_2_0) Cert.ShortConvRefIdeal.Gen.shapeCasts_S1x512_S512))) (extractStridedSlice Cert.ShortConvRefIdeal.S2x4096x512 ![0, 2, 0] (pad Cert.ShortConvRefIdeal.S2x4098x512 ![0, 1, 0] ![0, 1, 0] ![0, 0, 0] (mulf (extractStridedSlice Cert.ShortConvRefIdeal.S2x4096x512 ![0, 0, 2816] A0 Cert.ShortConvRefIdeal.Gen.slices_S2x4096x6912_S2x4096x512_0_0_2816) (extractStridedSlice Cert.ShortConvRefIdeal.S2x4096x512 ![0, 0, 3328] A0 Cert.ShortConvRefIdeal.Gen.slices_S2x4096x6912_S2x4096x512_0_0_3328)) (sitofp .f32 (constantI Cert.ShortConvRefIdeal.S_ 32 0#32)) Cert.ShortConvRefIdeal.Gen.pads_S2x4096x512_S2x4098x512_000_110_000 Cert.ShortConvRefIdeal.Gen.h_S_) Cert.ShortConvRefIdeal.Gen.slices_S2x4098x512_S2x4096x512_0_2_0)))) Cert.ShortConvRefIdeal.Gen.bitsLt_bf16_f32

/-- The padded product: eight rows of zeros, the product of the two blocks, eight rows of zeros. -/
def zed (x1 x2 : FVec Ideal S1x4096x256 .f32) : FVec Ideal S4112x256 .f32 := fun j =>
  if h : 8 ≤ (j 0 : ℕ) ∧ (j 0 : ℕ) < 4104 then
    x1 (ix3 (0 : Fin 1) (⟨(j 0 : ℕ) - 8, by omega⟩ : Fin 4096) (j 1)) * x2 (ix3 (0 : Fin 1) (⟨(j 0 : ℕ) - 8, by omega⟩ : Fin 4096) (j 1))
  else 0

/-- What the body's ten stores leave in the scratch. -/
theorem zed_canon (x1 x2 : FVec Ideal S1x4096x256 .f32) : View.canon (Val := Elt Ideal) (e := .f32)
    [⟨Rect.unit ![3592, 0] ![512, 256] inb_S4112x256_S512x256_3592_0, k0_pay15 (F := Ideal) (View.ld (Val := Elt Ideal) (e' := .f32) x1 (Rect.unit (s := S1x4096x256) ![0, 3584, 0] ![1, 512, 256] inb_S1x4096x256_S1x512x256_0_3584_0)) (View.ld (Val := Elt Ideal) (e' := .f32) x2 (Rect.unit (s := S1x4096x256) ![0, 3584, 0] ![1, 512, 256] inb_S1x4096x256_S1x512x256_0_3584_0))⟩,
      ⟨Rect.unit ![3080, 0] ![512, 256] inb_S4112x256_S512x256_3080_0, k0_pay14 (F := Ideal) (View.ld (Val := Elt Ideal) (e' := .f32) x1 (Rect.unit (s := S1x4096x256) ![0, 3072, 0] ![1, 512, 256] inb_S1x4096x256_S1x512x256_0_3072_0)) (View.ld (Val := Elt Ideal) (e' := .f32) x2 (Rect.unit (s := S1x4096x256) ![0, 3072, 0] ![1, 512, 256] inb_S1x4096x256_S1x512x256_0_3072_0))⟩,
      ⟨Rect.unit ![2568, 0] ![512, 256] inb_S4112x256_S512x256_2568_0, k0_pay13 (F := Ideal) (View.ld (Val := Elt Ideal) (e' := .f32) x1 (Rect.unit (s := S1x4096x256) ![0, 2560, 0] ![1, 512, 256] inb_S1x4096x256_S1x512x256_0_2560_0)) (View.ld (Val := Elt Ideal) (e' := .f32) x2 (Rect.unit (s := S1x4096x256) ![0, 2560, 0] ![1, 512, 256] inb_S1x4096x256_S1x512x256_0_2560_0))⟩,
      ⟨Rect.unit ![2056, 0] ![512, 256] inb_S4112x256_S512x256_2056_0, k0_pay12 (F := Ideal) (View.ld (Val := Elt Ideal) (e' := .f32) x1 (Rect.unit (s := S1x4096x256) ![0, 2048, 0] ![1, 512, 256] inb_S1x4096x256_S1x512x256_0_2048_0)) (View.ld (Val := Elt Ideal) (e' := .f32) x2 (Rect.unit (s := S1x4096x256) ![0, 2048, 0] ![1, 512, 256] inb_S1x4096x256_S1x512x256_0_2048_0))⟩,
      ⟨Rect.unit ![1544, 0] ![512, 256] inb_S4112x256_S512x256_1544_0, k0_pay11 (F := Ideal) (View.ld (Val := Elt Ideal) (e' := .f32) x1 (Rect.unit (s := S1x4096x256) ![0, 1536, 0] ![1, 512, 256] inb_S1x4096x256_S1x512x256_0_1536_0)) (View.ld (Val := Elt Ideal) (e' := .f32) x2 (Rect.unit (s := S1x4096x256) ![0, 1536, 0] ![1, 512, 256] inb_S1x4096x256_S1x512x256_0_1536_0))⟩,
      ⟨Rect.unit ![1032, 0] ![512, 256] inb_S4112x256_S512x256_1032_0, k0_pay10 (F := Ideal) (k0_pay8 (F := Ideal) (View.ld (Val := Elt Ideal) (e' := .f32) x1 (Rect.unit (s := S1x4096x256) ![0, 1024, 0] ![1, 512, 256] inb_S1x4096x256_S1x512x256_0_1024_0))) (k0_pay9 (F := Ideal) (View.ld (Val := Elt Ideal) (e' := .f32) x2 (Rect.unit (s := S1x4096x256) ![0, 1024, 0] ![1, 512, 256] inb_S1x4096x256_S1x512x256_0_1024_0)))⟩,
      ⟨Rect.unit ![520, 0] ![512, 256] inb_S4112x256_S512x256_520_0, k0_pay7 (F := Ideal) (View.ld (Val := Elt Ideal) (e' := .f32) x1 (Rect.unit (s := S1x4096x256) ![0, 512, 0] ![1, 512, 256] inb_S1x4096x256_S1x512x256_0_512_0)) (View.ld (Val := Elt Ideal) (e' := .f32) x2 (Rect.unit (s := S1x4096x256) ![0, 512, 0] ![1, 512, 256] inb_S1x4096x256_S1x512x256_0_512_0))⟩,
      ⟨Rect.unit ![8, 0] ![512, 256] inb_S4112x256_S512x256_8_0, k0_pay6 (F := Ideal) (View.ld (Val := Elt Ideal) (e' := .f32) x1 (Rect.unit (s := S1x4096x256) ![0, 0, 0] ![1, 512, 256] inb_S1x4096x256_S1x512x256_0_0_0)) (View.ld (Val := Elt Ideal) (e' := .f32) x2 (Rect.unit (s := S1x4096x256) ![0, 0, 0] ![1, 512, 256] inb_S1x4096x256_S1x512x256_0_0_0))⟩,
      ⟨Rect.unit ![4104, 0] ![8, 256] inb_S4112x256_S8x256_4104_0, k0_pay5 (F := Ideal)⟩,
      ⟨Rect.unit ![0, 0] ![8, 256] inb_S4112x256_S8x256_0_0, k0_pay4 (F := Ideal)⟩] = zed x1 x2 := by
  funext y
  canon_tiles x h using (by exact View.cover_of_tiledBy (s := S4112x256) _ ![8, 256] (by sl_kernel_rfl) y)
  all_goals (open_payloads; pointwise [zed])
  all_goals (split <;> first | (exfalso; omega) | rfl | blk_point [])

/-- Every window's block index at every grid point. -/
theorem idx_val : ∀ t : Fin cfg0.N, win0_0.index t = ![t.val / 2, 0, 9 + (t.val % 2)]
    ∧ win0_1.index t = ![t.val / 2, 0, 11 + (t.val % 2)]
    ∧ win0_2.index t = ![t.val / 2, 0, 13 + (t.val % 2)]
    ∧ win0_3.index t = ![0, t.val % 2]
    ∧ win0_4.index t = ![t.val / 2, 0, t.val % 2] :=
  (by decide +kernel : ∀ t : Fin grid0.N, _)

/-- The body's value at row `r` and column `q` of its output block, over the padded product. -/
def row (x0 x1 x2 : FVec Ideal S1x4096x256 .f32) (x3 : FVec Ideal S3x256 .f32) (r : Fin 4096) (q : Fin 256) : EReal :=
  x0 (ix3 (0 : Fin 1) r q) *
    (x3 (ix2 (0 : Fin 3) q) * zed x1 x2 (ix2 (⟨7 + r.val, by omega⟩ : Fin 4112) q)
      + x3 (ix2 (1 : Fin 3) q) * zed x1 x2 (ix2 (⟨8 + r.val, by omega⟩ : Fin 4112) q)
      + x3 (ix2 (2 : Fin 3) q) * zed x1 x2 (ix2 (⟨9 + r.val, by omega⟩ : Fin 4112) q))

/-- The padded product -1 rows away: the row before. -/
theorem zed_lo (x1 x2 : FVec Ideal S1x4096x256 .f32) (r : Fin 4096) (q : Fin 256) (h) : zed x1 x2 (ix2 (⟨7 + r.val, h⟩ : Fin 4112) q)
    = if h : 1 ≤ r.val then x1 (ix3 (0 : Fin 1) (⟨r.val - 1, by omega⟩ : Fin 4096) q) * x2 (ix3 (0 : Fin 1) (⟨r.val - 1, by omega⟩ : Fin 4096) q) else 0 := by
  pointwise [zed]
  split <;> split <;> first | (exfalso; omega) | rfl | blk_point [] <;> (exfalso; omega)

/-- The padded product +0 rows away: the row itself. -/
theorem zed_mid (x1 x2 : FVec Ideal S1x4096x256 .f32) (r : Fin 4096) (q : Fin 256) (h) : zed x1 x2 (ix2 (⟨8 + r.val, h⟩ : Fin 4112) q)
    = x1 (ix3 (0 : Fin 1) r q) * x2 (ix3 (0 : Fin 1) r q) := by
  pointwise [zed]
  split <;> first | (exfalso; omega) | rfl | blk_point []

/-- The padded product +1 rows away: the row after. -/
theorem zed_hi (x1 x2 : FVec Ideal S1x4096x256 .f32) (r : Fin 4096) (q : Fin 256) (h) : zed x1 x2 (ix2 (⟨9 + r.val, h⟩ : Fin 4112) q)
    = if h : r.val + 1 < 4096 then x1 (ix3 (0 : Fin 1) (⟨r.val + 1, by omega⟩ : Fin 4096) q) * x2 (ix3 (0 : Fin 1) (⟨r.val + 1, by omega⟩ : Fin 4096) q) else 0 := by
  pointwise [zed]
  split <;> split <;> first | (exfalso; omega) | rfl | blk_point [] <;> (exfalso; omega)

/-- What the body leaves in its output block. -/
theorem outs (c : Dev nD) (t : Fin cfg0.N) (y) : outsAt0 m c t y = row (iblk m c 0 t) (iblk m c 1 t) (iblk m c 2 t) (iblk m c 3 t) (y 1) (y 2) := by
  unfold outsAt0; frame_out
  simp only [View.readCov_eq_canon', zed_canon]
  canon_tiles x h
  all_goals (pointwise [row, k0_pay1, k0_pay2, k0_pay16, k0_pay17, k0_pay18, k0_pay19, k0_pay20, k0_pay21, k0_pay22, k0_pay23, k0_pay24, k0_pay25, k0_pay26]; blk_point [] <;> (exfalso; omega))

/-- The row's value at an index of the block is the reference's at the array index it sits at. -/
theorem core (c : Dev nD) (t : Fin cfg0.N) (r : Fin 4096) (q : Fin 256) (j : S2x4096x512.Idx)
    (hj0 : (j 0 : ℕ) = t.val / 2) (hj1 : (j 1 : ℕ) = r) (hj2 : (j 2 : ℕ) = t.val % 2 * 256 + q) :
    row (iblk m c 0 t) (iblk m c 1 t) (iblk m c 2 t) (iblk m c 3 t) r q
      = REF (m ((c : Thread nD τ).loc main_arg0)) (m ((c : Thread nD τ).loc main_arg1)) j := by
  have h0 : (FloatOps.sitofp FTy.f32 0#32 : Ideal .f32) = 0 := by
    show ((((0#32 : BitVec 32).toInt : ℤ) : ℝ) : EReal) = 0
    simp
  unfold row
  rw [zed_lo, zed_mid, zed_hi]
  pointwise [REF]
  simp only [h0]
  blk_point [iblk, V, idx_val t] <;> (exfalso; omega)

/-- The result array after the run is the reference's term. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]
  refine (outs m c t y).trans (core m c t (y 1) (y 2) _ ?_ ?_ ?_)
  all_goals (blk_simp [idx_val t] <;> try omega)

/-! ## The claims -/

theorem frame_bits : Cert.quiescent_ShortConv := fun m ρ _ => Cert.ShortConv.Gen.frame m ρ
theorem frame_ideal : Cert.quiescent_ShortConvIdeal := fun m ρ _ => Cert.ShortConvIdeal.Gen.frame m ρ

/-- The frame of the reference: it has no semaphore. -/
theorem frame_ref : Cert.quiescent_ShortConvRefIdeal := fun m ρ _ =>
  (θ_run Cert.ShortConvRefIdeal.defs _ _).mono
    (fun r h => ⟨fun c => (h c).2, Idealize.ShloMosaic.sem_eq_zero_of_no_sems (by decide) r.2⟩)
    (Cert.ShortConvRefIdeal.Value.run (F := Ideal) m ρ)

/-- Kernel and reference compute the same function over the extended reals. -/
theorem same : Cert.algebraic_ShortConvIdeal_ShortConvRefIdeal := by
  pair_intro
  · run_from Cert.ShortConvIdeal.Gen.run_main m g
  · run_from Cert.ShortConvRefIdeal.Value.run m' g'
    exact (final m c).symm

end Cert.ShortConvIdeal.Value

end
-- ==== Proof.SampleConvClaims.lean ====
/-
  The short convolution on the sample's batch: three neighbouring rows of a product, weighted and summed, times a gate.
-/
module

public import proofs.«01_k».proof.Defs
public import proofs.«01_k».proof.Proof.Gen.SampleConv.Frame
public import proofs.«01_k».proof.Proof.Gen.SampleConvIdeal.Frame
public import proofs.«01_k».proof.Proof.Gen.SampleConvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleConvIdeal.Value

open Cert.SampleConvIdeal Cert.SampleConvIdeal.Gen

variable (m : (ℓ : Loc nD τ sig) → Buf (Elt Ideal) ℓ)

/-- The reference's term over the arguments. -/
abbrev REF (A0 : FVec Ideal S4x2048x6912 .f32) (A1 : FVec Ideal S3x512 .f32) : FVec Ideal S4x2048x512 .bf16 :=
  truncf .bf16 (mulf (extractStridedSlice Cert.SampleConvRefIdeal.S4x2048x512 ![0, 0, 2304] A0 Cert.SampleConvRefIdeal.Gen.slices_S4x2048x6912_S4x2048x512_0_0_2304) (addf (addf (mulf (broadcastInDim Cert.SampleConvRefIdeal.S4x2048x512 ![0, 1, 2] Cert.SampleConvRefIdeal.Gen.bcast_S1x1x512_S4x2048x512_0_1_2 (broadcastInDim Cert.SampleConvRefIdeal.S1x1x512 ![2] Cert.SampleConvRefIdeal.Gen.bcast_S512_S1x1x512_2 (shapeCast Cert.SampleConvRefIdeal.S512 (extractStridedSlice Cert.SampleConvRefIdeal.S1x512 ![0, 0] A1 Cert.SampleConvRefIdeal.Gen.slices_S3x512_S1x512_0_0) Cert.SampleConvRefIdeal.Gen.shapeCasts_S1x512_S512))) (extractStridedSlice Cert.SampleConvRefIdeal.S4x2048x512 ![0, 0, 0] (pad Cert.SampleConvRefIdeal.S4x2050x512 ![0, 1, 0] ![0, 1, 0] ![0, 0, 0] (mulf (extractStridedSlice Cert.SampleConvRefIdeal.S4x2048x512 ![0, 0, 2816] A0 Cert.SampleConvRefIdeal.Gen.slices_S4x2048x6912_S4x2048x512_0_0_2816) (extractStridedSlice Cert.SampleConvRefIdeal.S4x2048x512 ![0, 0, 3328] A0 Cert.SampleConvRefIdeal.Gen.slices_S4x2048x6912_S4x2048x512_0_0_3328)) (sitofp .f32 (constantI Cert.SampleConvRefIdeal.S_ 32 0#32)) Cert.SampleConvRefIdeal.Gen.pads_S4x2048x512_S4x2050x512_000_110_000 Cert.SampleConvRefIdeal.Gen.h_S_) Cert.SampleConvRefIdeal.Gen.slices_S4x2050x512_S4x2048x512_0_0_0)) (mulf (broadcastInDim Cert.SampleConvRefIdeal.S4x2048x512 ![0, 1, 2] Cert.SampleConvRefIdeal.Gen.bcast_S1x1x512_S4x2048x512_0_1_2 (broadcastInDim Cert.SampleConvRefIdeal.S1x1x512 ![2] Cert.SampleConvRefIdeal.Gen.bcast_S512_S1x1x512_2 (shapeCast Cert.SampleConvRefIdeal.S512 (extractStridedSlice Cert.SampleConvRefIdeal.S1x512 ![1, 0] A1 Cert.SampleConvRefIdeal.Gen.slices_S3x512_S1x512_1_0) Cert.SampleConvRefIdeal.Gen.shapeCasts_S1x512_S512))) (extractStridedSlice Cert.SampleConvRefIdeal.S4x2048x512 ![0, 1, 0] (pad Cert.SampleConvRefIdeal.S4x2050x512 ![0, 1, 0] ![0, 1, 0] ![0, 0, 0] (mulf (extractStridedSlice Cert.SampleConvRefIdeal.S4x2048x512 ![0, 0, 2816] A0 Cert.SampleConvRefIdeal.Gen.slices_S4x2048x6912_S4x2048x512_0_0_2816) (extractStridedSlice Cert.SampleConvRefIdeal.S4x2048x512 ![0, 0, 3328] A0 Cert.SampleConvRefIdeal.Gen.slices_S4x2048x6912_S4x2048x512_0_0_3328)) (sitofp .f32 (constantI Cert.SampleConvRefIdeal.S_ 32 0#32)) Cert.SampleConvRefIdeal.Gen.pads_S4x2048x512_S4x2050x512_000_110_000 Cert.SampleConvRefIdeal.Gen.h_S_) Cert.SampleConvRefIdeal.Gen.slices_S4x2050x512_S4x2048x512_0_1_0))) (mulf (broadcastInDim Cert.SampleConvRefIdeal.S4x2048x512 ![0, 1, 2] Cert.SampleConvRefIdeal.Gen.bcast_S1x1x512_S4x2048x512_0_1_2 (broadcastInDim Cert.SampleConvRefIdeal.S1x1x512 ![2] Cert.SampleConvRefIdeal.Gen.bcast_S512_S1x1x512_2 (shapeCast Cert.SampleConvRefIdeal.S512 (extractStridedSlice Cert.SampleConvRefIdeal.S1x512 ![2, 0] A1 Cert.SampleConvRefIdeal.Gen.slices_S3x512_S1x512_2_0) Cert.SampleConvRefIdeal.Gen.shapeCasts_S1x512_S512))) (extractStridedSlice Cert.SampleConvRefIdeal.S4x2048x512 ![0, 2, 0] (pad Cert.SampleConvRefIdeal.S4x2050x512 ![0, 1, 0] ![0, 1, 0] ![0, 0, 0] (mulf (extractStridedSlice Cert.SampleConvRefIdeal.S4x2048x512 ![0, 0, 2816] A0 Cert.SampleConvRefIdeal.Gen.slices_S4x2048x6912_S4x2048x512_0_0_2816) (extractStridedSlice Cert.SampleConvRefIdeal.S4x2048x512 ![0, 0, 3328] A0 Cert.SampleConvRefIdeal.Gen.slices_S4x2048x6912_S4x2048x512_0_0_3328)) (sitofp .f32 (constantI Cert.SampleConvRefIdeal.S_ 32 0#32)) Cert.SampleConvRefIdeal.Gen.pads_S4x2048x512_S4x2050x512_000_110_000 Cert.SampleConvRefIdeal.Gen.h_S_) Cert.SampleConvRefIdeal.Gen.slices_S4x2050x512_S4x2048x512_0_2_0)))) Cert.SampleConvRefIdeal.Gen.bitsLt_bf16_f32

/-- The padded product: eight rows of zeros, the product of the two blocks, eight rows of zeros. -/
def zed (x1 x2 : FVec Ideal S1x2048x256 .f32) : FVec Ideal S2064x256 .f32 := fun j =>
  if h : 8 ≤ (j 0 : ℕ) ∧ (j 0 : ℕ) < 2056 then
    x1 (ix3 (0 : Fin 1) (⟨(j 0 : ℕ) - 8, by omega⟩ : Fin 2048) (j 1)) * x2 (ix3 (0 : Fin 1) (⟨(j 0 : ℕ) - 8, by omega⟩ : Fin 2048) (j 1))
  else 0

/-- What the body's six stores leave in the scratch. -/
theorem zed_canon (x1 x2 : FVec Ideal S1x2048x256 .f32) : View.canon (Val := Elt Ideal) (e := .f32)
    [⟨Rect.unit ![1544, 0] ![512, 256] inb_S2064x256_S512x256_1544_0, k0_pay11 (F := Ideal) (View.ld (Val := Elt Ideal) (e' := .f32) x1 (Rect.unit (s := S1x2048x256) ![0, 1536, 0] ![1, 512, 256] inb_S1x2048x256_S1x512x256_0_1536_0)) (View.ld (Val := Elt Ideal) (e' := .f32) x2 (Rect.unit (s := S1x2048x256) ![0, 1536, 0] ![1, 512, 256] inb_S1x2048x256_S1x512x256_0_1536_0))⟩,
      ⟨Rect.unit ![1032, 0] ![512, 256] inb_S2064x256_S512x256_1032_0, k0_pay10 (F := Ideal) (k0_pay8 (F := Ideal) (View.ld (Val := Elt Ideal) (e' := .f32) x1 (Rect.unit (s := S1x2048x256) ![0, 1024, 0] ![1, 512, 256] inb_S1x2048x256_S1x512x256_0_1024_0))) (k0_pay9 (F := Ideal) (View.ld (Val := Elt Ideal) (e' := .f32) x2 (Rect.unit (s := S1x2048x256) ![0, 1024, 0] ![1, 512, 256] inb_S1x2048x256_S1x512x256_0_1024_0)))⟩,
      ⟨Rect.unit ![520, 0] ![512, 256] inb_S2064x256_S512x256_520_0, k0_pay7 (F := Ideal) (View.ld (Val := Elt Ideal) (e' := .f32) x1 (Rect.unit (s := S1x2048x256) ![0, 512, 0] ![1, 512, 256] inb_S1x2048x256_S1x512x256_0_512_0)) (View.ld (Val := Elt Ideal) (e' := .f32) x2 (Rect.unit (s := S1x2048x256) ![0, 512, 0] ![1, 512, 256] inb_S1x2048x256_S1x512x256_0_512_0))⟩,
      ⟨Rect.unit ![8, 0] ![512, 256] inb_S2064x256_S512x256_8_0, k0_pay6 (F := Ideal) (View.ld (Val := Elt Ideal) (e' := .f32) x1 (Rect.unit (s := S1x2048x256) ![0, 0, 0] ![1, 512, 256] inb_S1x2048x256_S1x512x256_0_0_0)) (View.ld (Val := Elt Ideal) (e' := .f32) x2 (Rect.unit (s := S1x2048x256) ![0, 0, 0] ![1, 512, 256] inb_S1x2048x256_S1x512x256_0_0_0))⟩,
      ⟨Rect.unit ![2056, 0] ![8, 256] inb_S2064x256_S8x256_2056_0, k0_pay5 (F := Ideal)⟩,
      ⟨Rect.unit ![0, 0] ![8, 256] inb_S2064x256_S8x256_0_0, k0_pay4 (F := Ideal)⟩] = zed x1 x2 := by
  funext y
  canon_tiles x h using (by exact View.cover_of_tiledBy (s := S2064x256) _ ![8, 256] (by sl_kernel_rfl) y)
  all_goals (open_payloads; pointwise [zed])
  all_goals (split <;> first | (exfalso; omega) | rfl | blk_point [])

/-- Every window's block index at every grid point. -/
theorem idx_val : ∀ t : Fin cfg0.N, win0_0.index t = ![t.val / 2, 0, 9 + (t.val % 2)]
    ∧ win0_1.index t = ![t.val / 2, 0, 11 + (t.val % 2)]
    ∧ win0_2.index t = ![t.val / 2, 0, 13 + (t.val % 2)]
    ∧ win0_3.index t = ![0, t.val % 2]
    ∧ win0_4.index t = ![t.val / 2, 0, t.val % 2] :=
  (by decide +kernel : ∀ t : Fin grid0.N, _)

/-- The body's value at row `r` and column `q` of its output block, over the padded product. -/
def row (x0 x1 x2 : FVec Ideal S1x2048x256 .f32) (x3 : FVec Ideal S3x256 .f32) (r : Fin 2048) (q : Fin 256) : EReal :=
  x0 (ix3 (0 : Fin 1) r q) *
    (x3 (ix2 (0 : Fin 3) q) * zed x1 x2 (ix2 (⟨7 + r.val, by omega⟩ : Fin 2064) q)
      + x3 (ix2 (1 : Fin 3) q) * zed x1 x2 (ix2 (⟨8 + r.val, by omega⟩ : Fin 2064) q)
      + x3 (ix2 (2 : Fin 3) q) * zed x1 x2 (ix2 (⟨9 + r.val, by omega⟩ : Fin 2064) q))

/-- The padded product -1 rows away: the row before. -/
theorem zed_lo (x1 x2 : FVec Ideal S1x2048x256 .f32) (r : Fin 2048) (q : Fin 256) (h) : zed x1 x2 (ix2 (⟨7 + r.val, h⟩ : Fin 2064) q)
    = if h : 1 ≤ r.val then x1 (ix3 (0 : Fin 1) (⟨r.val - 1, by omega⟩ : Fin 2048) q) * x2 (ix3 (0 : Fin 1) (⟨r.val - 1, by omega⟩ : Fin 2048) q) else 0 := by
  pointwise [zed]
  split <;> split <;> first | (exfalso; omega) | rfl | blk_point [] <;> (exfalso; omega)

/-- The padded product +0 rows away: the row itself. -/
theorem zed_mid (x1 x2 : FVec Ideal S1x2048x256 .f32) (r : Fin 2048) (q : Fin 256) (h) : zed x1 x2 (ix2 (⟨8 + r.val, h⟩ : Fin 2064) q)
    = x1 (ix3 (0 : Fin 1) r q) * x2 (ix3 (0 : Fin 1) r q) := by
  pointwise [zed]
  split <;> first | (exfalso; omega) | rfl | blk_point []

/-- The padded product +1 rows away: the row after. -/
theorem zed_hi (x1 x2 : FVec Ideal S1x2048x256 .f32) (r : Fin 2048) (q : Fin 256) (h) : zed x1 x2 (ix2 (⟨9 + r.val, h⟩ : Fin 2064) q)
    = if h : r.val + 1 < 2048 then x1 (ix3 (0 : Fin 1) (⟨r.val + 1, by omega⟩ : Fin 2048) q) * x2 (ix3 (0 : Fin 1) (⟨r.val + 1, by omega⟩ : Fin 2048) q) else 0 := by
  pointwise [zed]
  split <;> split <;> first | (exfalso; omega) | rfl | blk_point [] <;> (exfalso; omega)

/-- What the body leaves in its output block. -/
theorem outs (c : Dev nD) (t : Fin cfg0.N) (y) : outsAt0 m c t y = row (iblk m c 0 t) (iblk m c 1 t) (iblk m c 2 t) (iblk m c 3 t) (y 1) (y 2) := by
  unfold outsAt0; frame_out
  simp only [View.readCov_eq_canon', zed_canon]
  canon_tiles x h
  all_goals (pointwise [row, k0_pay1, k0_pay2, k0_pay12, k0_pay13, k0_pay14, k0_pay15]; blk_point [] <;> (exfalso; omega))

/-- The row's value at an index of the block is the reference's at the array index it sits at. -/
theorem core (c : Dev nD) (t : Fin cfg0.N) (r : Fin 2048) (q : Fin 256) (j : S4x2048x512.Idx)
    (hj0 : (j 0 : ℕ) = t.val / 2) (hj1 : (j 1 : ℕ) = r) (hj2 : (j 2 : ℕ) = t.val % 2 * 256 + q) :
    row (iblk m c 0 t) (iblk m c 1 t) (iblk m c 2 t) (iblk m c 3 t) r q
      = REF (m ((c : Thread nD τ).loc main_arg0)) (m ((c : Thread nD τ).loc main_arg1)) j := by
  have h0 : (FloatOps.sitofp FTy.f32 0#32 : Ideal .f32) = 0 := by
    show ((((0#32 : BitVec 32).toInt : ℤ) : ℝ) : EReal) = 0
    simp
  unfold row
  rw [zed_lo, zed_mid, zed_hi]
  pointwise [REF]
  simp only [h0]
  blk_point [iblk, V, idx_val t] <;> (exfalso; omega)

/-- The result array after the run is the reference's term. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]
  refine (outs m c t y).trans (core m c t (y 1) (y 2) _ ?_ ?_ ?_)
  all_goals (blk_simp [idx_val t] <;> try omega)

/-! ## The claims -/

theorem frame_bits : Cert.quiescent_SampleConv := fun m ρ _ => Cert.SampleConv.Gen.frame m ρ
theorem frame_ideal : Cert.quiescent_SampleConvIdeal := fun m ρ _ => Cert.SampleConvIdeal.Gen.frame m ρ

/-- The frame of the reference: it has no semaphore. -/
theorem frame_ref : Cert.quiescent_SampleConvRefIdeal := fun m ρ _ =>
  (θ_run Cert.SampleConvRefIdeal.defs _ _).mono
    (fun r h => ⟨fun c => (h c).2, Idealize.ShloMosaic.sem_eq_zero_of_no_sems (by decide) r.2⟩)
    (Cert.SampleConvRefIdeal.Value.run (F := Ideal) m ρ)

/-- Kernel and reference compute the same function over the extended reals. -/
theorem same : Cert.algebraic_SampleConvIdeal_SampleConvRefIdeal := by
  pair_intro
  · run_from Cert.SampleConvIdeal.Gen.run_main m g
  · run_from Cert.SampleConvRefIdeal.Value.run m' g'
    exact (final m c).symm

end Cert.SampleConvIdeal.Value

end
-- ==== Proof.RouteClaims.lean ====
/-
  The norm before the peer block, a result of the routing call: each row divided by the root of its mean square, times the gain.
-/
module

public import proofs.«01_k».proof.Defs
public import proofs.«01_k».proof.Proof.Gen.Route.Frame
public import proofs.«01_k».proof.Proof.Gen.RouteIdeal.Frame
public import proofs.«01_k».proof.Proof.Gen.RouteRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RouteIdeal.Value

open Cert.RouteIdeal Cert.RouteIdeal.Gen

variable (m : (ℓ : Loc nD τ sig) → Buf (Elt Ideal) ℓ)

/-- The reference's term over the arguments. -/
abbrev REF (A0 : FVec Ideal S8192x2048 .f32) (A1 : FVec Ideal S2048 .f32) : FVec Ideal S8192x2048 .f32 :=
  mulf (mulf A0 (broadcastInDim Cert.RouteRefIdeal.S8192x2048 ![0, 1] Cert.RouteRefIdeal.Gen.bcast_S8192x1_S8192x2048_0_1 (Host.rsqrt (addf (Host.divf (broadcastInDim Cert.RouteRefIdeal.S8192x1 ![0] Cert.RouteRefIdeal.Gen.bcast_S8192_S8192x1_0 (Host.reduceAdd (mulf A0 A0) (constant Cert.RouteRefIdeal.S_ .f32 0x00000000#32) Cert.RouteRefIdeal.Gen.reducesTo_S8192x2048_S8192_d1 Cert.RouteRefIdeal.Gen.h_S_)) (broadcastInDim Cert.RouteRefIdeal.S8192x1 ![] Cert.RouteRefIdeal.Gen.bcast_S_S8192x1 (constant Cert.RouteRefIdeal.S_ .f32 0x45000000#32))) (broadcastInDim Cert.RouteRefIdeal.S8192x1 ![] Cert.RouteRefIdeal.Gen.bcast_S_S8192x1 (constant Cert.RouteRefIdeal.S_ .f32 0x358637BD#32)))))) (broadcastInDim Cert.RouteRefIdeal.S8192x2048 ![0, 1] Cert.RouteRefIdeal.Gen.bcast_S1x2048_S8192x2048_0_1 (broadcastInDim Cert.RouteRefIdeal.S1x2048 ![1] Cert.RouteRefIdeal.Gen.bcast_S2048_S1x2048_1 A1))

/-- The windows' block indices at every grid point. -/
theorem idx : ∀ t : Fin cfg0.N, win0_0.index t = ![(grid0.coords t 0).val, 0] ∧ win0_1.index t = ![0, 0] ∧ win0_4.index t = ![(grid0.coords t 0).val, 0] :=
  (by decide +kernel : ∀ t : Fin grid0.N, _)

/-- What the body stores at block index `y` of point `t` is the reference at the array index that `y` sits at. -/
theorem point (c : Dev nD) (t : Fin cfg0.N) (y) : k0_pay4 (iblk m c 0 t) (iblk m c 1 t) y
    = REF (m ((c : Thread nD τ).loc main_arg0)) (m ((c : Thread nD τ).loc main_arg1)) (((cfg0.win 4).blk t).view.emb y) := by
  pointwise [k0_pay4, REF]
  blk_point [iblk, V, idx t]

/-- The result array after the run is the reference's term. -/
theorem final (c : Dev nD) : (dats m 0 c).arrAt 4 (cfgs 0).N = REF (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  exact point m c t y

/-! ## The claims -/

theorem frame_bits : Cert.quiescent_Route := fun m ρ _ => Cert.Route.Gen.frame m ρ
theorem frame_ideal : Cert.quiescent_RouteIdeal := fun m ρ _ => Cert.RouteIdeal.Gen.frame m ρ

/-- The frame of the reference: it has no semaphore. -/
theorem frame_ref : Cert.quiescent_RouteRefIdeal := fun m ρ _ =>
  (θ_run Cert.RouteRefIdeal.defs _ _).mono
    (fun r h => ⟨fun c => (h c).2, Idealize.ShloMosaic.sem_eq_zero_of_no_sems (by decide) r.2⟩)
    (Cert.RouteRefIdeal.Value.run (F := Ideal) m ρ)

/-- Kernel and reference compute the same function over the extended reals. -/
theorem same : Cert.algebraic_RouteIdeal_RouteRefIdeal := by
  pair_intro
  · run_from Cert.RouteIdeal.Gen.run_main m g
  · run_from Cert.RouteRefIdeal.Value.run m' g'
    exact (final m c).symm

end Cert.RouteIdeal.Value

end
-- ==== Proof.lean ====
/-
  The proof of `Cert.Claim`: the programs' facts and, one by one, the claims.
-/
module

public import proofs.«01_k».proof.Defs
public import proofs.«01_k».proof.Proof.Gen.Kernel
public import proofs.«01_k».proof.Proof.Gen.Reference
public import proofs.«01_k».proof.Proof.Gen.Reference.Run
public import proofs.«01_k».proof.Proof.Gen.InProjIdeal.Value
public import proofs.«01_k».proof.Proof.Gen.InProjRefIdeal.Run
public import proofs.«01_k».proof.Proof.Gen.OutProjIdeal.Value
public import proofs.«01_k».proof.Proof.Gen.OutProjRefIdeal.Run
public import proofs.«01_k».proof.Proof.Gen.FinalNormIdeal.Value
public import proofs.«01_k».proof.Proof.Gen.ShortConvIdeal.Value
public import proofs.«01_k».proof.Proof.Gen.SampleConvIdeal.Value
public import proofs.«01_k».proof.Proof.Gen.RouteIdeal.Value
public import proofs.«01_k».proof.Proof.Gen.FinalNormRefIdeal.Run
public import proofs.«01_k».proof.Proof.Gen.ShortConvRefIdeal.Run
public import proofs.«01_k».proof.Proof.Gen.SampleConvRefIdeal.Run
public import proofs.«01_k».proof.Proof.Gen.RouteRefIdeal.Run
public import proofs.«01_k».proof.Proof.Gen.InProj.Frame
public import proofs.«01_k».proof.Proof.Gen.OutProj.Frame
public import proofs.«01_k».proof.Proof.Gen.FinalNorm.Frame
public import proofs.«01_k».proof.Proof.Gen.ShortConv.Frame
public import proofs.«01_k».proof.Proof.Gen.SampleConv.Frame
public import proofs.«01_k».proof.Proof.Gen.Route.Frame
public import proofs.«01_k».proof.Proof.PackClaims
public import proofs.«01_k».proof.Proof.InProjClaims
public import proofs.«01_k».proof.Proof.OutProjClaims
public import proofs.«01_k».proof.Proof.FinalNormClaims
public import proofs.«01_k».proof.Proof.ShortConvClaims
public import proofs.«01_k».proof.Proof.SampleConvClaims
public import proofs.«01_k».proof.Proof.RouteClaims

@[expose] public section

noncomputable section

namespace Cert.Proof

/-- Everything claimed. -/
theorem claim : Cert.Claim :=
  ⟨Cert.Kernel.Gen.facts, Cert.Reference.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.FinalNorm.Gen.facts, Cert.FinalNormIdeal.Gen.facts, Cert.FinalNormRefIdeal.Gen.facts,
    Cert.ShortConv.Gen.facts, Cert.ShortConvIdeal.Gen.facts, Cert.ShortConvRefIdeal.Gen.facts,
    Cert.SampleConv.Gen.facts, Cert.SampleConvIdeal.Gen.facts, Cert.SampleConvRefIdeal.Gen.facts,
    Cert.Route.Gen.facts, Cert.RouteIdeal.Gen.facts, Cert.RouteRefIdeal.Gen.facts,
    Pack.frame_kernel, Pack.frame_reference,
    Cert.InProjIdeal.Value.frame_bits, Cert.InProjIdeal.Value.frame_ideal, Cert.InProjIdeal.Value.frame_ref,
    Cert.OutProjIdeal.Value.frame_bits, Cert.OutProjIdeal.Value.frame_ideal, Cert.OutProjIdeal.Value.frame_ref,
    Cert.FinalNormIdeal.Value.frame_bits, Cert.FinalNormIdeal.Value.frame_ideal, Cert.FinalNormIdeal.Value.frame_ref,
    Cert.ShortConvIdeal.Value.frame_bits, Cert.ShortConvIdeal.Value.frame_ideal, Cert.ShortConvIdeal.Value.frame_ref,
    Cert.SampleConvIdeal.Value.frame_bits, Cert.SampleConvIdeal.Value.frame_ideal, Cert.SampleConvIdeal.Value.frame_ref,
    Cert.RouteIdeal.Value.frame_bits, Cert.RouteIdeal.Value.frame_ideal, Cert.RouteIdeal.Value.frame_ref,
    Pack.bitexact,
    trivial, Cert.InProjIdeal.Value.same,
    trivial, Cert.OutProjIdeal.Value.same,
    trivial, Cert.FinalNormIdeal.Value.same,
    trivial, Cert.ShortConvIdeal.Value.same,
    trivial, Cert.SampleConvIdeal.Value.same,
    trivial, Cert.RouteIdeal.Value.same⟩

end Cert.Proof

end
